-- ==== Defs.lean ====
def Pre_Kernel (m : (ℓ : Loc Cert.Kernel.nD Cert.Kernel.τ Cert.Kernel.sig) → Buf (Elt Bits) ℓ) : Prop :=
  True

def Pre_ConfAcc (m : (ℓ : Loc Cert.ConfAcc.nD Cert.ConfAcc.τ Cert.ConfAcc.sig) → Buf (Elt Bits) ℓ) : Prop :=
  True

def Pre_ConfAccIdeal (m : (ℓ : Loc Cert.ConfAccIdeal.nD Cert.ConfAccIdeal.τ Cert.ConfAccIdeal.sig) → Buf (Elt Ideal) ℓ) : Prop :=
  True

def Pre_ConfAccIdeal_rows_finite [hPre_rows_finite : Cert.Pre_rows_finite.Facts] (m : (ℓ : Loc Cert.ConfAccIdeal.nD Cert.ConfAccIdeal.τ Cert.ConfAccIdeal.sig) → Buf (Elt Ideal) ℓ) : Prop :=
  ∀ c : Dev Cert.ConfAccIdeal.nD,
    (Cert.Pre_rows_finite.fn (F := Ideal) (m ((c.tc : Thread Cert.ConfAccIdeal.nD Cert.ConfAccIdeal.τ).loc Cert.ConfAccIdeal.main_arg0)) (m ((c.tc : Thread Cert.ConfAccIdeal.nD Cert.ConfAccIdeal.τ).loc Cert.ConfAccIdeal.main_arg1))) = (fun _ => 1#1)

def Pre_ConfAccRefIdeal (m : (ℓ : Loc Cert.ConfAccRefIdeal.nD Cert.ConfAccRefIdeal.τ Cert.ConfAccRefIdeal.sig) → Buf (Elt Ideal) ℓ) : Prop :=
  True

def Pre_ConfAccRefIdeal_rows_finite [hPre_rows_finite : Cert.Pre_rows_finite.Facts] (m : (ℓ : Loc Cert.ConfAccRefIdeal.nD Cert.ConfAccRefIdeal.τ Cert.ConfAccRefIdeal.sig) → Buf (Elt Ideal) ℓ) : Prop :=
  ∀ c : Dev Cert.ConfAccRefIdeal.nD,
    (Cert.Pre_rows_finite.fn (F := Ideal) (m ((c.tc : Thread Cert.ConfAccRefIdeal.nD Cert.ConfAccRefIdeal.τ).loc Cert.ConfAccRefIdeal.main_arg0)) (m ((c.tc : Thread Cert.ConfAccRefIdeal.nD Cert.ConfAccRefIdeal.τ).loc Cert.ConfAccRefIdeal.main_arg1))) = (fun _ => 1#1)

def Pre_Ece (m : (ℓ : Loc Cert.Ece.nD Cert.Ece.τ Cert.Ece.sig) → Buf (Elt Bits) ℓ) : Prop :=
  True

def Pre_EceIdeal (m : (ℓ : Loc Cert.EceIdeal.nD Cert.EceIdeal.τ Cert.EceIdeal.sig) → Buf (Elt Ideal) ℓ) : Prop :=
  True

def Pre_EceIdeal_rows_finite [hPre_rows_finite : Cert.Pre_rows_finite.Facts] (m : (ℓ : Loc Cert.EceIdeal.nD Cert.EceIdeal.τ Cert.EceIdeal.sig) → Buf (Elt Ideal) ℓ) : Prop :=
  ∀ c : Dev Cert.EceIdeal.nD,
    (Cert.Pre_rows_finite.fn (F := Ideal) (m ((c.tc : Thread Cert.EceIdeal.nD Cert.EceIdeal.τ).loc Cert.EceIdeal.main_arg0)) (m ((c.tc : Thread Cert.EceIdeal.nD Cert.EceIdeal.τ).loc Cert.EceIdeal.main_arg1))) = (fun _ => 1#1)

def Pre_EceRefIdeal (m : (ℓ : Loc Cert.EceRefIdeal.nD Cert.EceRefIdeal.τ Cert.EceRefIdeal.sig) → Buf (Elt Ideal) ℓ) : Prop :=
  True

def Pre_EceRefIdeal_rows_finite [hPre_rows_finite : Cert.Pre_rows_finite.Facts] (m : (ℓ : Loc Cert.EceRefIdeal.nD Cert.EceRefIdeal.τ Cert.EceRefIdeal.sig) → Buf (Elt Ideal) ℓ) : Prop :=
  ∀ c : Dev Cert.EceRefIdeal.nD,
    (Cert.Pre_rows_finite.fn (F := Ideal) (m ((c.tc : Thread Cert.EceRefIdeal.nD Cert.EceRefIdeal.τ).loc Cert.EceRefIdeal.main_arg0)) (m ((c.tc : Thread Cert.EceRefIdeal.nD Cert.EceRefIdeal.τ).loc Cert.EceRefIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_ConfAcc [hConfAcc : Cert.ConfAcc.Facts] : Prop :=
  ∀ (m : (ℓ : Loc Cert.ConfAcc.nD Cert.ConfAcc.τ Cert.ConfAcc.sig) → Buf (Elt Bits) ℓ) (g : Dev Cert.ConfAcc.nD → PrngReg), Pre_ConfAcc m →
    θ_run (Cert.ConfAcc.defs (F := Bits)) (onTc (τ := Cert.ConfAcc.τ) (Cert.ConfAcc.main (F := Bits))) ⟨m, fun _ => 0, g⟩ (fun r => (∀ c : Dev Cert.ConfAcc.nD,
      r.2.mem ((c.tc : Thread Cert.ConfAcc.nD Cert.ConfAcc.τ).loc Cert.ConfAcc.main_arg0) = m ((c.tc : Thread Cert.ConfAcc.nD Cert.ConfAcc.τ).loc Cert.ConfAcc.main_arg0)
      ∧ r.2.mem ((c.tc : Thread Cert.ConfAcc.nD Cert.ConfAcc.τ).loc Cert.ConfAcc.main_arg1) = m ((c.tc : Thread Cert.ConfAcc.nD Cert.ConfAcc.τ).loc Cert.ConfAcc.main_arg1))
      ∧ r.2.sem = fun _ => 0)

def quiescent_ConfAccIdeal [hConfAccIdeal : Cert.ConfAccIdeal.Facts] : Prop :=
  ∀ (m : (ℓ : Loc Cert.ConfAccIdeal.nD Cert.ConfAccIdeal.τ Cert.ConfAccIdeal.sig) → Buf (Elt Ideal) ℓ) (g : Dev Cert.ConfAccIdeal.nD → PrngReg), Pre_ConfAccIdeal m →
    θ_run (Cert.ConfAccIdeal.defs (F := Ideal)) (onTc (τ := Cert.ConfAccIdeal.τ) (Cert.ConfAccIdeal.main (F := Ideal))) ⟨m, fun _ => 0, g⟩ (fun r => (∀ c : Dev Cert.ConfAccIdeal.nD,
      r.2.mem ((c.tc : Thread Cert.ConfAccIdeal.nD Cert.ConfAccIdeal.τ).loc Cert.ConfAccIdeal.main_arg0) = m ((c.tc : Thread Cert.ConfAccIdeal.nD Cert.ConfAccIdeal.τ).loc Cert.ConfAccIdeal.main_arg0)
      ∧ r.2.mem ((c.tc : Thread Cert.ConfAccIdeal.nD Cert.ConfAccIdeal.τ).loc Cert.ConfAccIdeal.main_arg1) = m ((c.tc : Thread Cert.ConfAccIdeal.nD Cert.ConfAccIdeal.τ).loc Cert.ConfAccIdeal.main_arg1))
      ∧ r.2.sem = fun _ => 0)

def quiescent_ConfAccIdeal_pre_rows_finite [hConfAccIdeal : Cert.ConfAccIdeal.Facts] [hPre_rows_finite : Cert.Pre_rows_finite.Facts] : Prop :=
  ∀ (m : (ℓ : Loc Cert.ConfAccIdeal.nD Cert.ConfAccIdeal.τ Cert.ConfAccIdeal.sig) → Buf (Elt Ideal) ℓ) (g : Dev Cert.ConfAccIdeal.nD → PrngReg), Pre_ConfAccIdeal_rows_finite m →
    θ_run (Cert.ConfAccIdeal.defs (F := Ideal)) (onTc (τ := Cert.ConfAccIdeal.τ) (Cert.ConfAccIdeal.main (F := Ideal))) ⟨m, fun _ => 0, g⟩ (fun r => (∀ c : Dev Cert.ConfAccIdeal.nD,
      r.2.mem ((c.tc : Thread Cert.ConfAccIdeal.nD Cert.ConfAccIdeal.τ).loc Cert.ConfAccIdeal.main_arg0) = m ((c.tc : Thread Cert.ConfAccIdeal.nD Cert.ConfAccIdeal.τ).loc Cert.ConfAccIdeal.main_arg0)
      ∧ r.2.mem ((c.tc : Thread Cert.ConfAccIdeal.nD Cert.ConfAccIdeal.τ).loc Cert.ConfAccIdeal.main_arg1) = m ((c.tc : Thread Cert.ConfAccIdeal.nD Cert.ConfAccIdeal.τ).loc Cert.ConfAccIdeal.main_arg1))
      ∧ r.2.sem = fun _ => 0)

def quiescent_ConfAccRefIdeal [hConfAccRefIdeal : Cert.ConfAccRefIdeal.Facts] : Prop :=
  ∀ (m : (ℓ : Loc Cert.ConfAccRefIdeal.nD Cert.ConfAccRefIdeal.τ Cert.ConfAccRefIdeal.sig) → Buf (Elt Ideal) ℓ) (g : Dev Cert.ConfAccRefIdeal.nD → PrngReg), Pre_ConfAccRefIdeal m →
    θ_run (Cert.ConfAccRefIdeal.defs (F := Ideal)) (onTc (τ := Cert.ConfAccRefIdeal.τ) (Cert.ConfAccRefIdeal.main (F := Ideal))) ⟨m, fun _ => 0, g⟩ (fun r => (∀ c : Dev Cert.ConfAccRefIdeal.nD,
      r.2.mem ((c.tc : Thread Cert.ConfAccRefIdeal.nD Cert.ConfAccRefIdeal.τ).loc Cert.ConfAccRefIdeal.main_arg0) = m ((c.tc : Thread Cert.ConfAccRefIdeal.nD Cert.ConfAccRefIdeal.τ).loc Cert.ConfAccRefIdeal.main_arg0)
      ∧ r.2.mem ((c.tc : Thread Cert.ConfAccRefIdeal.nD Cert.ConfAccRefIdeal.τ).loc Cert.ConfAccRefIdeal.main_arg1) = m ((c.tc : Thread Cert.ConfAccRefIdeal.nD Cert.ConfAccRefIdeal.τ).loc Cert.ConfAccRefIdeal.main_arg1))
      ∧ r.2.sem = fun _ => 0)

def quiescent_ConfAccRefIdeal_pre_rows_finite [hConfAccRefIdeal : Cert.ConfAccRefIdeal.Facts] [hPre_rows_finite : Cert.Pre_rows_finite.Facts] : Prop :=
  ∀ (m : (ℓ : Loc Cert.ConfAccRefIdeal.nD Cert.ConfAccRefIdeal.τ Cert.ConfAccRefIdeal.sig) → Buf (Elt Ideal) ℓ) (g : Dev Cert.ConfAccRefIdeal.nD → PrngReg), Pre_ConfAccRefIdeal_rows_finite m →
    θ_run (Cert.ConfAccRefIdeal.defs (F := Ideal)) (onTc (τ := Cert.ConfAccRefIdeal.τ) (Cert.ConfAccRefIdeal.main (F := Ideal))) ⟨m, fun _ => 0, g⟩ (fun r => (∀ c : Dev Cert.ConfAccRefIdeal.nD,
      r.2.mem ((c.tc : Thread Cert.ConfAccRefIdeal.nD Cert.ConfAccRefIdeal.τ).loc Cert.ConfAccRefIdeal.main_arg0) = m ((c.tc : Thread Cert.ConfAccRefIdeal.nD Cert.ConfAccRefIdeal.τ).loc Cert.ConfAccRefIdeal.main_arg0)
      ∧ r.2.mem ((c.tc : Thread Cert.ConfAccRefIdeal.nD Cert.ConfAccRefIdeal.τ).loc Cert.ConfAccRefIdeal.main_arg1) = m ((c.tc : Thread Cert.ConfAccRefIdeal.nD Cert.ConfAccRefIdeal.τ).loc Cert.ConfAccRefIdeal.main_arg1))
      ∧ r.2.sem = fun _ => 0)

def quiescent_Ece [hEce : Cert.Ece.Facts] : Prop :=
  ∀ (m : (ℓ : Loc Cert.Ece.nD Cert.Ece.τ Cert.Ece.sig) → Buf (Elt Bits) ℓ) (g : Dev Cert.Ece.nD → PrngReg), Pre_Ece m →
    θ_run (Cert.Ece.defs (F := Bits)) (onTc (τ := Cert.Ece.τ) (Cert.Ece.main (F := Bits))) ⟨m, fun _ => 0, g⟩ (fun r => (∀ c : Dev Cert.Ece.nD,
      r.2.mem ((c.tc : Thread Cert.Ece.nD Cert.Ece.τ).loc Cert.Ece.main_arg0) = m ((c.tc : Thread Cert.Ece.nD Cert.Ece.τ).loc Cert.Ece.main_arg0)
      ∧ r.2.mem ((c.tc : Thread Cert.Ece.nD Cert.Ece.τ).loc Cert.Ece.main_arg1) = m ((c.tc : Thread Cert.Ece.nD Cert.Ece.τ).loc Cert.Ece.main_arg1))
      ∧ r.2.sem = fun _ => 0)

def quiescent_EceIdeal [hEceIdeal : Cert.EceIdeal.Facts] : Prop :=
  ∀ (m : (ℓ : Loc Cert.EceIdeal.nD Cert.EceIdeal.τ Cert.EceIdeal.sig) → Buf (Elt Ideal) ℓ) (g : Dev Cert.EceIdeal.nD → PrngReg), Pre_EceIdeal m →
    θ_run (Cert.EceIdeal.defs (F := Ideal)) (onTc (τ := Cert.EceIdeal.τ) (Cert.EceIdeal.main (F := Ideal))) ⟨m, fun _ => 0, g⟩ (fun r => (∀ c : Dev Cert.EceIdeal.nD,
      r.2.mem ((c.tc : Thread Cert.EceIdeal.nD Cert.EceIdeal.τ).loc Cert.EceIdeal.main_arg0) = m ((c.tc : Thread Cert.EceIdeal.nD Cert.EceIdeal.τ).loc Cert.EceIdeal.main_arg0)
      ∧ r.2.mem ((c.tc : Thread Cert.EceIdeal.nD Cert.EceIdeal.τ).loc Cert.EceIdeal.main_arg1) = m ((c.tc : Thread Cert.EceIdeal.nD Cert.EceIdeal.τ).loc Cert.EceIdeal.main_arg1))
      ∧ r.2.sem = fun _ => 0)

def quiescent_EceIdeal_pre_rows_finite [hEceIdeal : Cert.EceIdeal.Facts] [hPre_rows_finite : Cert.Pre_rows_finite.Facts] : Prop :=
  ∀ (m : (ℓ : Loc Cert.EceIdeal.nD Cert.EceIdeal.τ Cert.EceIdeal.sig) → Buf (Elt Ideal) ℓ) (g : Dev Cert.EceIdeal.nD → PrngReg), Pre_EceIdeal_rows_finite m →
    θ_run (Cert.EceIdeal.defs (F := Ideal)) (onTc (τ := Cert.EceIdeal.τ) (Cert.EceIdeal.main (F := Ideal))) ⟨m, fun _ => 0, g⟩ (fun r => (∀ c : Dev Cert.EceIdeal.nD,
      r.2.mem ((c.tc : Thread Cert.EceIdeal.nD Cert.EceIdeal.τ).loc Cert.EceIdeal.main_arg0) = m ((c.tc : Thread Cert.EceIdeal.nD Cert.EceIdeal.τ).loc Cert.EceIdeal.main_arg0)
      ∧ r.2.mem ((c.tc : Thread Cert.EceIdeal.nD Cert.EceIdeal.τ).loc Cert.EceIdeal.main_arg1) = m ((c.tc : Thread Cert.EceIdeal.nD Cert.EceIdeal.τ).loc Cert.EceIdeal.main_arg1))
      ∧ r.2.sem = fun _ => 0)

def quiescent_EceRefIdeal [hEceRefIdeal : Cert.EceRefIdeal.Facts] : Prop :=
  ∀ (m : (ℓ : Loc Cert.EceRefIdeal.nD Cert.EceRefIdeal.τ Cert.EceRefIdeal.sig) → Buf (Elt Ideal) ℓ) (g : Dev Cert.EceRefIdeal.nD → PrngReg), Pre_EceRefIdeal m →
    θ_run (Cert.EceRefIdeal.defs (F := Ideal)) (onTc (τ := Cert.EceRefIdeal.τ) (Cert.EceRefIdeal.main (F := Ideal))) ⟨m, fun _ => 0, g⟩ (fun r => (∀ c : Dev Cert.EceRefIdeal.nD,
      r.2.mem ((c.tc : Thread Cert.EceRefIdeal.nD Cert.EceRefIdeal.τ).loc Cert.EceRefIdeal.main_arg0) = m ((c.tc : Thread Cert.EceRefIdeal.nD Cert.EceRefIdeal.τ).loc Cert.EceRefIdeal.main_arg0)
      ∧ r.2.mem ((c.tc : Thread Cert.EceRefIdeal.nD Cert.EceRefIdeal.τ).loc Cert.EceRefIdeal.main_arg1) = m ((c.tc : Thread Cert.EceRefIdeal.nD Cert.EceRefIdeal.τ).loc Cert.EceRefIdeal.main_arg1))
      ∧ r.2.sem = fun _ => 0)

def quiescent_EceRefIdeal_pre_rows_finite [hEceRefIdeal : Cert.EceRefIdeal.Facts] [hPre_rows_finite : Cert.Pre_rows_finite.Facts] : Prop :=
  ∀ (m : (ℓ : Loc Cert.EceRefIdeal.nD Cert.EceRefIdeal.τ Cert.EceRefIdeal.sig) → Buf (Elt Ideal) ℓ) (g : Dev Cert.EceRefIdeal.nD → PrngReg), Pre_EceRefIdeal_rows_finite m →
    θ_run (Cert.EceRefIdeal.defs (F := Ideal)) (onTc (τ := Cert.EceRefIdeal.τ) (Cert.EceRefIdeal.main (F := Ideal))) ⟨m, fun _ => 0, g⟩ (fun r => (∀ c : Dev Cert.EceRefIdeal.nD,
      r.2.mem ((c.tc : Thread Cert.EceRefIdeal.nD Cert.EceRefIdeal.τ).loc Cert.EceRefIdeal.main_arg0) = m ((c.tc : Thread Cert.EceRefIdeal.nD Cert.EceRefIdeal.τ).loc Cert.EceRefIdeal.main_arg0)
      ∧ r.2.mem ((c.tc : Thread Cert.EceRefIdeal.nD Cert.EceRefIdeal.τ).loc Cert.EceRefIdeal.main_arg1) = m ((c.tc : Thread Cert.EceRefIdeal.nD Cert.EceRefIdeal.τ).loc Cert.EceRefIdeal.main_arg1))
      ∧ r.2.sem = fun _ => 0)

def preserves_ConfAcc_ConfAccIdeal : Prop :=
  True

def algebraic_ConfAccIdeal_ConfAccRefIdeal_pre_rows_finite [hConfAccIdeal : Cert.ConfAccIdeal.Facts] [hConfAccRefIdeal : Cert.ConfAccRefIdeal.Facts] [hPre_rows_finite : Cert.Pre_rows_finite.Facts] : Prop :=
  ∀ (m : (ℓ : Loc Cert.ConfAccIdeal.nD Cert.ConfAccIdeal.τ Cert.ConfAccIdeal.sig) → Buf (Elt Ideal) ℓ) (g : Dev Cert.ConfAccIdeal.nD → PrngReg)
    (m' : (ℓ : Loc Cert.ConfAccRefIdeal.nD Cert.ConfAccRefIdeal.τ Cert.ConfAccRefIdeal.sig) → Buf (Elt Ideal) ℓ) (g' : Dev Cert.ConfAccRefIdeal.nD → PrngReg), Pre_ConfAccIdeal_rows_finite m →
    (∀ c : Dev Cert.ConfAccIdeal.nD,
      m' ((c.tc : Thread Cert.ConfAccRefIdeal.nD Cert.ConfAccRefIdeal.τ).loc Cert.ConfAccRefIdeal.main_arg0) = m ((c.tc : Thread Cert.ConfAccIdeal.nD Cert.ConfAccIdeal.τ).loc Cert.ConfAccIdeal.main_arg0)
      ∧ m' ((c.tc : Thread Cert.ConfAccRefIdeal.nD Cert.ConfAccRefIdeal.τ).loc Cert.ConfAccRefIdeal.main_arg1) = m ((c.tc : Thread Cert.ConfAccIdeal.nD Cert.ConfAccIdeal.τ).loc Cert.ConfAccIdeal.main_arg1)) →
    ∃ (v0 : (c : Dev Cert.ConfAccIdeal.nD) → Buf (Elt Ideal) ((c.tc : Thread Cert.ConfAccIdeal.nD Cert.ConfAccIdeal.τ).loc Cert.ConfAccIdeal.main_v1_0)) (v1 : (c : Dev Cert.ConfAccIdeal.nD) → Buf (Elt Ideal) ((c.tc : Thread Cert.ConfAccIdeal.nD Cert.ConfAccIdeal.τ).loc Cert.ConfAccIdeal.main_v1_1)),
      θ_run (Cert.ConfAccIdeal.defs (F := Ideal)) (onTc (τ := Cert.ConfAccIdeal.τ) (Cert.ConfAccIdeal.main (F := Ideal))) ⟨m, fun _ => 0, g⟩ (fun r => ∀ c : Dev Cert.ConfAccIdeal.nD,
          r.2.mem ((c.tc : Thread Cert.ConfAccIdeal.nD Cert.ConfAccIdeal.τ).loc Cert.ConfAccIdeal.main_v1_0) = v0 c
          ∧ r.2.mem ((c.tc : Thread Cert.ConfAccIdeal.nD Cert.ConfAccIdeal.τ).loc Cert.ConfAccIdeal.main_v1_1) = v1 c
          ∧ r.2.mem ((c.tc : Thread Cert.ConfAccIdeal.nD Cert.ConfAccIdeal.τ).loc Cert.ConfAccIdeal.main_arg0) = m ((c.tc : Thread Cert.ConfAccIdeal.nD Cert.ConfAccIdeal.τ).loc Cert.ConfAccIdeal.main_arg0)
          ∧ r.2.mem ((c.tc : Thread Cert.ConfAccIdeal.nD Cert.ConfAccIdeal.τ).loc Cert.ConfAccIdeal.main_arg1) = m ((c.tc : Thread Cert.ConfAccIdeal.nD Cert.ConfAccIdeal.τ).loc Cert.ConfAccIdeal.main_arg1))
      ∧ θ_run (Cert.ConfAccRefIdeal.defs (F := Ideal)) (onTc (τ := Cert.ConfAccRefIdeal.τ) (Cert.ConfAccRefIdeal.main (F := Ideal))) ⟨m', fun _ => 0, g'⟩ (fun r => ∀ c : Dev Cert.ConfAccRefIdeal.nD,
          r.2.mem ((c.tc : Thread Cert.ConfAccRefIdeal.nD Cert.ConfAccRefIdeal.τ).loc Cert.ConfAccRefIdeal.main_v15) = v0 c
          ∧ r.2.mem ((c.tc : Thread Cert.ConfAccRefIdeal.nD Cert.ConfAccRefIdeal.τ).loc Cert.ConfAccRefIdeal.main_v16) = v1 c
          ∧ r.2.mem ((c.tc : Thread Cert.ConfAccRefIdeal.nD Cert.ConfAccRefIdeal.τ).loc Cert.ConfAccRefIdeal.main_arg0) = m' ((c.tc : Thread Cert.ConfAccRefIdeal.nD Cert.ConfAccRefIdeal.τ).loc Cert.ConfAccRefIdeal.main_arg0)
          ∧ r.2.mem ((c.tc : Thread Cert.ConfAccRefIdeal.nD Cert.ConfAccRefIdeal.τ).loc Cert.ConfAccRefIdeal.main_arg1) = m' ((c.tc : Thread Cert.ConfAccRefIdeal.nD Cert.ConfAccRefIdeal.τ).loc Cert.ConfAccRefIdeal.main_arg1))

def preserves_Ece_EceIdeal : Prop :=
  IdealRules.named_const.Statement Cert.EceIdeal.κ "inv_n" .f32 0x37A7C5AC#32 ((1 / 50000 : ℝ) : EReal)

def algebraic_EceIdeal_EceRefIdeal_pre_rows_finite [hEceIdeal : Cert.EceIdeal.Facts] [hEceRefIdeal : Cert.EceRefIdeal.Facts] [hPre_rows_finite : Cert.Pre_rows_finite.Facts] : Prop :=
  ∀ (m : (ℓ : Loc Cert.EceIdeal.nD Cert.EceIdeal.τ Cert.EceIdeal.sig) → Buf (Elt Ideal) ℓ) (g : Dev Cert.EceIdeal.nD → PrngReg)
    (m' : (ℓ : Loc Cert.EceRefIdeal.nD Cert.EceRefIdeal.τ Cert.EceRefIdeal.sig) → Buf (Elt Ideal) ℓ) (g' : Dev Cert.EceRefIdeal.nD → PrngReg), Pre_EceIdeal_rows_finite m →
    (∀ c : Dev Cert.EceIdeal.nD,
      m' ((c.tc : Thread Cert.EceRefIdeal.nD Cert.EceRefIdeal.τ).loc Cert.EceRefIdeal.main_arg0) = m ((c.tc : Thread Cert.EceIdeal.nD Cert.EceIdeal.τ).loc Cert.EceIdeal.main_arg0)
      ∧ m' ((c.tc : Thread Cert.EceRefIdeal.nD Cert.EceRefIdeal.τ).loc Cert.EceRefIdeal.main_arg1) = m ((c.tc : Thread Cert.EceIdeal.nD Cert.EceIdeal.τ).loc Cert.EceIdeal.main_arg1)) →
    ∃ (v0 : (c : Dev Cert.EceIdeal.nD) → Buf (Elt Ideal) ((c.tc : Thread Cert.EceIdeal.nD Cert.EceIdeal.τ).loc Cert.EceIdeal.main_v11)),
      θ_run (Cert.EceIdeal.defs (F := Ideal)) (onTc (τ := Cert.EceIdeal.τ) (Cert.EceIdeal.main (F := Ideal))) ⟨m, fun _ => 0, g⟩ (fun r => ∀ c : Dev Cert.EceIdeal.nD,
          r.2.mem ((c.tc : Thread Cert.EceIdeal.nD Cert.EceIdeal.τ).loc Cert.EceIdeal.main_v11) = v0 c
          ∧ r.2.mem ((c.tc : Thread Cert.EceIdeal.nD Cert.EceIdeal.τ).loc Cert.EceIdeal.main_arg0) = m ((c.tc : Thread Cert.EceIdeal.nD Cert.EceIdeal.τ).loc Cert.EceIdeal.main_arg0)
          ∧ r.2.mem ((c.tc : Thread Cert.EceIdeal.nD Cert.EceIdeal.τ).loc Cert.EceIdeal.main_arg1) = m ((c.tc : Thread Cert.EceIdeal.nD Cert.EceIdeal.τ).loc Cert.EceIdeal.main_arg1))
      ∧ θ_run (Cert.EceRefIdeal.defs (F := Ideal)) (onTc (τ := Cert.EceRefIdeal.τ) (Cert.EceRefIdeal.main (F := Ideal))) ⟨m', fun _ => 0, g'⟩ (fun r => ∀ c : Dev Cert.EceRefIdeal.nD,
          r.2.mem ((c.tc : Thread Cert.EceRefIdeal.nD Cert.EceRefIdeal.τ).loc Cert.EceRefIdeal.main_v70) = v0 c
          ∧ r.2.mem ((c.tc : Thread Cert.EceRefIdeal.nD Cert.EceRefIdeal.τ).loc Cert.EceRefIdeal.main_arg0) = m' ((c.tc : Thread Cert.EceRefIdeal.nD Cert.EceRefIdeal.τ).loc Cert.EceRefIdeal.main_arg0)
          ∧ r.2.mem ((c.tc : Thread Cert.EceRefIdeal.nD Cert.EceRefIdeal.τ).loc Cert.EceRefIdeal.main_arg1) = m' ((c.tc : Thread Cert.EceRefIdeal.nD Cert.EceRefIdeal.τ).loc Cert.EceRefIdeal.main_arg1))

def Claim : Prop :=
  ∃ (hKernel : Cert.Kernel.Facts) (hConfAcc : Cert.ConfAcc.Facts) (hConfAccIdeal : Cert.ConfAccIdeal.Facts) (hConfAccRefIdeal : Cert.ConfAccRefIdeal.Facts) (hEce : Cert.Ece.Facts) (hEceIdeal : Cert.EceIdeal.Facts) (hEceRefIdeal : Cert.EceRefIdeal.Facts) (hPre_rows_finite : Cert.Pre_rows_finite.Facts),
    quiescent_Kernel (hKernel := hKernel)
    ∧ quiescent_ConfAcc (hConfAcc := hConfAcc)
    ∧ quiescent_ConfAccIdeal (hConfAccIdeal := hConfAccIdeal)
    ∧ quiescent_ConfAccIdeal_pre_rows_finite (hConfAccIdeal := hConfAccIdeal) (hPre_rows_finite := hPre_rows_finite)
    ∧ quiescent_ConfAccRefIdeal (hConfAccRefIdeal := hConfAccRefIdeal)
    ∧ quiescent_ConfAccRefIdeal_pre_rows_finite (hConfAccRefIdeal := hConfAccRefIdeal) (hPre_rows_finite := hPre_rows_finite)
    ∧ quiescent_Ece (hEce := hEce)
    ∧ quiescent_EceIdeal (hEceIdeal := hEceIdeal)
    ∧ quiescent_EceIdeal_pre_rows_finite (hEceIdeal := hEceIdeal) (hPre_rows_finite := hPre_rows_finite)
    ∧ quiescent_EceRefIdeal (hEceRefIdeal := hEceRefIdeal)
    ∧ quiescent_EceRefIdeal_pre_rows_finite (hEceRefIdeal := hEceRefIdeal) (hPre_rows_finite := hPre_rows_finite)
    ∧ preserves_ConfAcc_ConfAccIdeal
    ∧ algebraic_ConfAccIdeal_ConfAccRefIdeal_pre_rows_finite (hConfAccIdeal := hConfAccIdeal) (hConfAccRefIdeal := hConfAccRefIdeal) (hPre_rows_finite := hPre_rows_finite)
    ∧ preserves_Ece_EceIdeal
    ∧ algebraic_EceIdeal_EceRefIdeal_pre_rows_finite (hEceIdeal := hEceIdeal) (hEceRefIdeal := hEceRefIdeal) (hPre_rows_finite := hPre_rows_finite)
-- ==== Pre_rows_finite.lean ====
abbrev S50000x1000 : Shape := ⟨2, ![50000, 1000]⟩
abbrev S50000 : Shape := ⟨1, ![50000]⟩
abbrev S_ : Shape := ⟨0, ![]⟩

class Facts : Prop where
  reducesTo_S50000x1000_S50000_d1 : S50000x1000.ReducesTo [1] S50000
  h_S_ : 0 < S_.numel
  bcast_S_S50000 : S_.BroadcastsInDim S50000 (![] : Fin 0 → Fin S50000.rank)
  reducesTo_S50000_S_d0 : S50000.ReducesTo [0] S_

variable [Facts]

def fn {F : FTy → Type} [FloatOps F] (main_arg0 : FVec F S50000x1000 .f32) (main_arg1 : IVec S50000 32) : IVec S_ 1 :=
  let main_cst : FVec F S_ .f32 := constant S_ .f32 0xFF800000#32
  let main_v0 : FVec F S50000 .f32 := (fun x v => Host.reduce FloatOps.maximumf x v reducesTo_S50000x1000_S50000_d1 h_S_) main_arg0 main_cst
  let main_cst_0 : FVec F S_ .f32 := constant S_ .f32 0xFF800000#32
  let main_v1 : FVec F S50000 .f32 := broadcastInDim S50000 ![] bcast_S_S50000 main_cst_0
  let main_v2 : IVec S50000 1 := cmpf .ogt main_v0 main_v1
  let main_cst_1 : FVec F S_ .f32 := constant S_ .f32 0x7F800000#32
  let main_v3 : FVec F S50000 .f32 := broadcastInDim S50000 ![] bcast_S_S50000 main_cst_1
  let main_v4 : IVec S50000 1 := cmpf .olt main_v0 main_v3
  let main_v5 : IVec S50000 1 := andi main_v2 main_v4
  let main_c : IVec S_ 1 := constantI S_ 1 1#1
  let main_v6 : IVec S_ 1 := (fun x v => Host.reduce IntOp.andi x v reducesTo_S50000_S_d0 h_S_) main_v5 main_c
  main_v6
-- ==== Kernel.lean ====
abbrev S50000x1000 : Shape := ⟨2, ![50000, 1000]⟩
abbrev S50000 : Shape := ⟨1, ![50000]⟩
abbrev S14 : Shape := ⟨1, ![14]⟩
abbrev S25x1x2000 : Shape := ⟨3, ![25, 1, 2000]⟩
abbrev S2000x1000 : Shape := ⟨2, ![2000, 1000]⟩
abbrev S1x1x2000 : Shape := ⟨3, ![1, 1, 2000]⟩
abbrev S2000 : Shape := ⟨1, ![2000]⟩
abbrev S2000x1 : Shape := ⟨2, ![2000, 1]⟩
abbrev S1000x1 : Shape := ⟨2, ![1000, 1]⟩
abbrev S8x128 : Shape := ⟨2, ![8, 128]⟩
abbrev S25x2000 : Shape := ⟨2, ![25, 2000]⟩
abbrev S1x25x2000 : Shape := ⟨3, ![1, 25, 2000]⟩
abbrev S14x1x1 : Shape := ⟨3, ![14, 1, 1]⟩
abbrev S14x25x2000 : Shape := ⟨3, ![14, 25, 2000]⟩
abbrev S1 : Shape := ⟨1, ![1]⟩
abbrev S1x1x1 : Shape := ⟨3, ![1, 1, 1]⟩
abbrev S1x1 : Shape := ⟨2, ![1, 1]⟩

abbrev nBuf : Space → Nat
  | .hbm => 10
  | .vmem => 13
  | .smem => 0
  | _ => 0

abbrev bufTy : (tb : Table) → Fin (tcTables nBuf tb) → BufTy
  | .hbm, ⟨0, _⟩ => ⟨S50000x1000, .f32⟩
  | .hbm, ⟨1, _⟩ => ⟨S50000, .i32⟩
  | .hbm, ⟨2, _⟩ => ⟨S14, .i32⟩
  | .hbm, ⟨3, _⟩ => ⟨S14, .f32⟩
  | .hbm, ⟨4, _⟩ => ⟨S25x1x2000, .i32⟩
  | .hbm, ⟨5, _⟩ => ⟨S25x1x2000, .f32⟩
  | .hbm, ⟨6, _⟩ => ⟨S25x1x2000, .f32⟩
  | .hbm, ⟨7, _⟩ => ⟨S8x128, .f32⟩
  | .hbm, ⟨8, _⟩ => ⟨S1x1, .f32⟩
  | .hbm, ⟨9, _⟩ => ⟨S1, .f32⟩
  | .local _ .vmem, ⟨0, _⟩ => ⟨S2000x1000, .f32⟩
  | .local _ .vmem, ⟨1, _⟩ => ⟨S2000x1000, .f32⟩
  | .local _ .vmem, ⟨2, _⟩ => ⟨S1x1x2000, .i32⟩
  | .local _ .vmem, ⟨3, _⟩ => ⟨S1x1x2000, .i32⟩
  | .local _ .vmem, ⟨4, _⟩ => ⟨S1x1x2000, .f32⟩
  | .local _ .vmem, ⟨5, _⟩ => ⟨S1x1x2000, .f32⟩
  | .local _ .vmem, ⟨6, _⟩ => ⟨S1x1x2000, .f32⟩
  | .local _ .vmem, ⟨7, _⟩ => ⟨S1x1x2000, .f32⟩
  | .local _ .vmem, ⟨8, _⟩ => ⟨S25x1x2000, .f32⟩
  | .local _ .vmem, ⟨9, _⟩ => ⟨S25x1x2000, .f32⟩
  | .local _ .vmem, ⟨10, _⟩ => ⟨S14, .i32⟩
  | .local _ .vmem, ⟨11, _⟩ => ⟨S14, .f32⟩
  | .local _ .vmem, ⟨12, _⟩ => ⟨S8x128, .f32⟩
  | _, _ => ⟨S50000x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_cst : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem1_0 : DmaSem sig := 9
abbrev cc1_sem2_0 : DmaSem sig := 10
abbrev cc1_sem3_0 : DmaSem sig := 11
abbrev cc1_sem4_0 : DmaSem sig := 12

abbrev nD : Nat := 1
abbrev τ : Topo := Topo.v7x

variable {F : FTy → Type} [BitOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2000x1000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2000 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![1], ![false]⟩

@[reducible] def k1_t1_loop : Scf.Loop 32 :=
  let c0_i32 : BitVec 32 := 0#32
  let c27_i32 : BitVec 32 := 27#32
  let v7 : BitVec 32 := Scalar.addi c0_i32 c27_i32
  let c1_i32 : BitVec 32 := 1#32
  ⟨c0_i32, v7, c1_i32⟩
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S25x1x2000 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S25x1x2000 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S14 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S14 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S8x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]
-- ==== ConfAcc.lean ====
abbrev S50000x1000 : Shape := ⟨2, ![50000, 1000]⟩
abbrev S50000 : Shape := ⟨1, ![50000]⟩
abbrev S25x1x2000 : Shape := ⟨3, ![25, 1, 2000]⟩
abbrev S2000x1000 : Shape := ⟨2, ![2000, 1000]⟩
abbrev S1x1x2000 : Shape := ⟨3, ![1, 1, 2000]⟩
abbrev S2000 : Shape := ⟨1, ![2000]⟩
abbrev S2000x1 : Shape := ⟨2, ![2000, 1]⟩
abbrev S1000x1 : Shape := ⟨2, ![1000, 1]⟩

abbrev nBuf : Space → Nat
  | .hbm => 5
  | .vmem => 8
  | .smem => 0
  | _ => 0

abbrev bufTy : (tb : Table) → Fin (tcTables nBuf tb) → BufTy
  | .hbm, ⟨0, _⟩ => ⟨S50000x1000, .f32⟩
  | .hbm, ⟨1, _⟩ => ⟨S50000, .i32⟩
  | .hbm, ⟨2, _⟩ => ⟨S25x1x2000, .i32⟩
  | .hbm, ⟨3, _⟩ => ⟨S25x1x2000, .f32⟩
  | .hbm, ⟨4, _⟩ => ⟨S25x1x2000, .f32⟩
  | .local _ .vmem, ⟨0, _⟩ => ⟨S2000x1000, .f32⟩
  | .local _ .vmem, ⟨1, _⟩ => ⟨S2000x1000, .f32⟩
  | .local _ .vmem, ⟨2, _⟩ => ⟨S1x1x2000, .i32⟩
  | .local _ .vmem, ⟨3, _⟩ => ⟨S1x1x2000, .i32⟩
  | .local _ .vmem, ⟨4, _⟩ => ⟨S1x1x2000, .f32⟩
  | .local _ .vmem, ⟨5, _⟩ => ⟨S1x1x2000, .f32⟩
  | .local _ .vmem, ⟨6, _⟩ => ⟨S1x1x2000, .f32⟩
  | .local _ .vmem, ⟨7, _⟩ => ⟨S1x1x2000, .f32⟩
  | _, _ => ⟨S50000x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2000x1000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2000 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ConfAccRefIdeal.lean ====
abbrev S50000x1000 : Shape := ⟨2, ![50000, 1000]⟩
abbrev S50000 : Shape := ⟨1, ![50000]⟩
abbrev S_ : Shape := ⟨0, ![]⟩
abbrev S50000x1 : Shape := ⟨2, ![50000, 1]⟩
abbrev S25x1x2000 : Shape := ⟨3, ![25, 1, 2000]⟩

abbrev nBuf : Space → Nat
  | .hbm => 27
  | .vmem => 0
  | .smem => 0
  | _ => 0

abbrev bufTy : (tb : Table) → Fin (tcTables nBuf tb) → BufTy
  | .hbm, ⟨0, _⟩ => ⟨S50000x1000, .f32⟩
  | .hbm, ⟨1, _⟩ => ⟨S50000, .i32⟩
  | .hbm, ⟨2, _⟩ => ⟨S_, .f32⟩
  | .hbm, ⟨3, _⟩ => ⟨S50000, .f32⟩
  | .hbm, ⟨4, _⟩ => ⟨S_, .f32⟩
  | .hbm, ⟨5, _⟩ => ⟨S50000, .f32⟩
  | .hbm, ⟨6, _⟩ => ⟨S50000, .f32⟩
  | .hbm, ⟨7, _⟩ => ⟨S50000x1, .f32⟩
  | .hbm, ⟨8, _⟩ => ⟨S50000x1000, .f32⟩
  | .hbm, ⟨9, _⟩ => ⟨S50000x1000, .f32⟩
  | .hbm, ⟨10, _⟩ => ⟨S50000x1000, .f32⟩
  | .hbm, ⟨11, _⟩ => ⟨S_, .f32⟩
  | .hbm, ⟨12, _⟩ => ⟨S50000, .f32⟩
  | .hbm, ⟨13, _⟩ => ⟨S50000x1, .f32⟩
  | .hbm, ⟨14, _⟩ => ⟨S50000x1000, .f32⟩
  | .hbm, ⟨15, _⟩ => ⟨S50000x1000, .f32⟩
  | .hbm, ⟨16, _⟩ => ⟨S_, .f32⟩
  | .hbm, ⟨17, _⟩ => ⟨S50000, .f32⟩
  | .hbm, ⟨18, _⟩ => ⟨S50000x1000, .i32⟩
  | .hbm, ⟨19, _⟩ => ⟨S_, .f32⟩
  | .hbm, ⟨20, _⟩ => ⟨S_, .i32⟩
  | .hbm, ⟨21, _⟩ => ⟨S50000, .f32⟩
  | .hbm, ⟨22, _⟩ => ⟨S50000, .i32⟩
  | .hbm, ⟨23, _⟩ => ⟨S50000, .i1⟩
  | .hbm, ⟨24, _⟩ => ⟨S50000, .f32⟩
  | .hbm, ⟨25, _⟩ => ⟨S25x1x2000, .f32⟩
  | .hbm, ⟨26, _⟩ => ⟨S25x1x2000, .f32⟩
  | _, _ => ⟨S50000x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_call0_v0 : Ref sig .tc := ⟨.hbm, 18, rfl⟩
abbrev main_call0_cst : Ref sig .tc := ⟨.hbm, 19, rfl⟩
abbrev main_call0_c : Ref sig .tc := ⟨.hbm, 20, rfl⟩
abbrev main_call0_v1_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩

abbrev nD : Nat := 1
abbrev τ : Topo := Topo.v7x

variable {F : FTy → Type} [FloatOps F]
-- ==== Ece.lean ====
abbrev S50000x1000 : Shape := ⟨2, ![50000, 1000]⟩
abbrev S50000 : Shape := ⟨1, ![50000]⟩
abbrev S14 : Shape := ⟨1, ![14]⟩
abbrev S25x1x2000 : Shape := ⟨3, ![25, 1, 2000]⟩
abbrev S2000x1000 : Shape := ⟨2, ![2000, 1000]⟩
abbrev S1x1x2000 : Shape := ⟨3, ![1, 1, 2000]⟩
abbrev S2000 : Shape := ⟨1, ![2000]⟩
abbrev S2000x1 : Shape := ⟨2, ![2000, 1]⟩
abbrev S1000x1 : Shape := ⟨2, ![1000, 1]⟩
abbrev S_ : Shape := ⟨0, ![]⟩
abbrev S14x1 : Shape := ⟨2, ![14, 1]⟩
abbrev S8x128 : Shape := ⟨2, ![8, 128]⟩
abbrev S25x2000 : Shape := ⟨2, ![25, 2000]⟩
abbrev S1x25x2000 : Shape := ⟨3, ![1, 25, 2000]⟩
abbrev S14x1x1 : Shape := ⟨3, ![14, 1, 1]⟩
abbrev S14x25x2000 : Shape := ⟨3, ![14, 25, 2000]⟩
abbrev S1 : Shape := ⟨1, ![1]⟩
abbrev S1x1x1 : Shape := ⟨3, ![1, 1, 1]⟩
abbrev S1x1 : Shape := ⟨2, ![1, 1]⟩

abbrev nBuf : Space → Nat
  | .hbm => 19
  | .vmem => 14
  | .smem => 0
  | _ => 0

abbrev bufTy : (tb : Table) → Fin (tcTables nBuf tb) → BufTy
  | .hbm, ⟨0, _⟩ => ⟨S50000x1000, .f32⟩
  | .hbm, ⟨1, _⟩ => ⟨S50000, .i32⟩
  | .hbm, ⟨2, _⟩ => ⟨S14, .i32⟩
  | .hbm, ⟨3, _⟩ => ⟨S14, .i1⟩
  | .hbm, ⟨4, _⟩ => ⟨S14, .f32⟩
  | .hbm, ⟨5, _⟩ => ⟨S25x1x2000, .i32⟩
  | .hbm, ⟨6, _⟩ => ⟨S25x1x2000, .f32⟩
  | .hbm, ⟨7, _⟩ => ⟨S25x1x2000, .f32⟩
  | .hbm, ⟨8, _⟩ => ⟨S50000, .f32⟩
  | .hbm, ⟨9, _⟩ => ⟨S50000, .f32⟩
  | .hbm, ⟨10, _⟩ => ⟨S_, .i32⟩
  | .hbm, ⟨11, _⟩ => ⟨S14, .i32⟩
  | .hbm, ⟨12, _⟩ => ⟨S14, .i32⟩
  | .hbm, ⟨13, _⟩ => ⟨S14, .i32⟩
  | .hbm, ⟨14, _⟩ => ⟨S14x1, .i32⟩
  | .hbm, ⟨15, _⟩ => ⟨S14, .f32⟩
  | .hbm, ⟨16, _⟩ => ⟨S8x128, .f32⟩
  | .hbm, ⟨17, _⟩ => ⟨S1x1, .f32⟩
  | .hbm, ⟨18, _⟩ => ⟨S1, .f32⟩
  | .local _ .vmem, ⟨0, _⟩ => ⟨S2000x1000, .f32⟩
  | .local _ .vmem, ⟨1, _⟩ => ⟨S2000x1000, .f32⟩
  | .local _ .vmem, ⟨2, _⟩ => ⟨S1x1x2000, .i32⟩
  | .local _ .vmem, ⟨3, _⟩ => ⟨S1x1x2000, .i32⟩
  | .local _ .vmem, ⟨4, _⟩ => ⟨S1x1x2000, .f32⟩
  | .local _ .vmem, ⟨5, _⟩ => ⟨S1x1x2000, .f32⟩
  | .local _ .vmem, ⟨6, _⟩ => ⟨S1x1x2000, .f32⟩
  | .local _ .vmem, ⟨7, _⟩ => ⟨S1x1x2000, .f32⟩
  | .local _ .vmem, ⟨8, _⟩ => ⟨S25x1x2000, .f32⟩
  | .local _ .vmem, ⟨9, _⟩ => ⟨S25x1x2000, .f32⟩
  | .local _ .vmem, ⟨10, _⟩ => ⟨S14, .f32⟩
  | .local _ .vmem, ⟨11, _⟩ => ⟨S14, .i32⟩
  | .local _ .vmem, ⟨12, _⟩ => ⟨S14, .f32⟩
  | .local _ .vmem, ⟨13, _⟩ => ⟨S8x128, .f32⟩
  | _, _ => ⟨S50000x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_cst : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v2 : Ref sig .tc := ⟨.hbm, 8, rfl⟩
abbrev main_v3 : Ref sig .tc := ⟨.hbm, 9, rfl⟩
abbrev main_c_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2000x1000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2000 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![1], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S25x1x2000 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S25x1x2000 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S14 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S14 .i32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S14 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S8x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]
-- ==== EceIdeal.lean ====
variable {F : FTy → Type} [FloatOps F] [Named F]
def κ : String → Option EReal := fun
  | "inv_n" => some ((1 / 50000 : ℝ) : EReal)
  | _ => none
-- ==== EceRefIdeal.lean ====
abbrev S50000x1000 : Shape := ⟨2, ![50000, 1000]⟩
abbrev S50000 : Shape := ⟨1, ![50000]⟩
abbrev S16 : Shape := ⟨1, ![16]⟩
abbrev S_ : Shape := ⟨0, ![]⟩
abbrev S50000x1 : Shape := ⟨2, ![50000, 1]⟩
abbrev S16x1 : Shape := ⟨2, ![16, 1]⟩
abbrev S1 : Shape := ⟨1, ![1]⟩
abbrev S15 : Shape := ⟨1, ![15]⟩
abbrev S15x1 : Shape := ⟨2, ![15, 1]⟩
abbrev S1x50000 : Shape := ⟨2, ![1, 50000]⟩
abbrev S15x50000 : Shape := ⟨2, ![15, 50000]⟩

abbrev nBuf : Space → Nat
  | .hbm => 104
  | .vmem => 0
  | .smem => 0
  | _ => 0

abbrev bufTy : (tb : Table) → Fin (tcTables nBuf tb) → BufTy
  | .hbm, ⟨0, _⟩ => ⟨S50000x1000, .f32⟩
  | .hbm, ⟨1, _⟩ => ⟨S50000, .i32⟩
  | .hbm, ⟨2, _⟩ => ⟨S16, .i32⟩
  | .hbm, ⟨3, _⟩ => ⟨S16, .i1⟩
  | .hbm, ⟨4, _⟩ => ⟨S16, .i32⟩
  | .hbm, ⟨5, _⟩ => ⟨S16, .i1⟩
  | .hbm, ⟨6, _⟩ => ⟨S16, .f32⟩
  | .hbm, ⟨7, _⟩ => ⟨S16, .i1⟩
  | .hbm, ⟨8, _⟩ => ⟨S_, .f32⟩
  | .hbm, ⟨9, _⟩ => ⟨S50000, .f32⟩
  | .hbm, ⟨10, _⟩ => ⟨S_, .f32⟩
  | .hbm, ⟨11, _⟩ => ⟨S50000, .f32⟩
  | .hbm, ⟨12, _⟩ => ⟨S50000, .f32⟩
  | .hbm, ⟨13, _⟩ => ⟨S50000x1, .f32⟩
  | .hbm, ⟨14, _⟩ => ⟨S50000x1000, .f32⟩
  | .hbm, ⟨15, _⟩ => ⟨S50000x1000, .f32⟩
  | .hbm, ⟨16, _⟩ => ⟨S50000x1000, .f32⟩
  | .hbm, ⟨17, _⟩ => ⟨S_, .f32⟩
  | .hbm, ⟨18, _⟩ => ⟨S50000, .f32⟩
  | .hbm, ⟨19, _⟩ => ⟨S50000x1, .f32⟩
  | .hbm, ⟨20, _⟩ => ⟨S50000x1000, .f32⟩
  | .hbm, ⟨21, _⟩ => ⟨S50000x1000, .f32⟩
  | .hbm, ⟨22, _⟩ => ⟨S_, .f32⟩
  | .hbm, ⟨23, _⟩ => ⟨S50000, .f32⟩
  | .hbm, ⟨24, _⟩ => ⟨S50000x1000, .i32⟩
  | .hbm, ⟨25, _⟩ => ⟨S_, .f32⟩
  | .hbm, ⟨26, _⟩ => ⟨S_, .i32⟩
  | .hbm, ⟨27, _⟩ => ⟨S50000, .f32⟩
  | .hbm, ⟨28, _⟩ => ⟨S50000, .i32⟩
  | .hbm, ⟨29, _⟩ => ⟨S50000, .i1⟩
  | .hbm, ⟨30, _⟩ => ⟨S50000, .f32⟩
  | .hbm, ⟨31, _⟩ => ⟨S50000, .f32⟩
  | .hbm, ⟨32, _⟩ => ⟨S_, .i32⟩
  | .hbm, ⟨33, _⟩ => ⟨S16, .i32⟩
  | .hbm, ⟨34, _⟩ => ⟨S16, .i32⟩
  | .hbm, ⟨35, _⟩ => ⟨S16, .i32⟩
  | .hbm, ⟨36, _⟩ => ⟨S16x1, .i32⟩
  | .hbm, ⟨37, _⟩ => ⟨S16, .f32⟩
  | .hbm, ⟨38, _⟩ => ⟨S_, .i32⟩
  | .hbm, ⟨39, _⟩ => ⟨S16, .i32⟩
  | .hbm, ⟨40, _⟩ => ⟨S16, .i32⟩
  | .hbm, ⟨41, _⟩ => ⟨S16, .i32⟩
  | .hbm, ⟨42, _⟩ => ⟨S16x1, .i32⟩
  | .hbm, ⟨43, _⟩ => ⟨S16, .f32⟩
  | .hbm, ⟨44, _⟩ => ⟨S16, .f32⟩
  | .hbm, ⟨45, _⟩ => ⟨S16, .f32⟩
  | .hbm, ⟨46, _⟩ => ⟨S16, .f32⟩
  | .hbm, ⟨47, _⟩ => ⟨S1, .f32⟩
  | .hbm, ⟨48, _⟩ => ⟨S_, .f32⟩
  | .hbm, ⟨49, _⟩ => ⟨S16, .f32⟩
  | .hbm, ⟨50, _⟩ => ⟨S16, .f32⟩
  | .hbm, ⟨51, _⟩ => ⟨S15, .f32⟩
  | .hbm, ⟨52, _⟩ => ⟨S15x1, .f32⟩
  | .hbm, ⟨53, _⟩ => ⟨S15, .f32⟩
  | .hbm, ⟨54, _⟩ => ⟨S15x1, .f32⟩
  | .hbm, ⟨55, _⟩ => ⟨S1x50000, .f32⟩
  | .hbm, ⟨56, _⟩ => ⟨S15x50000, .f32⟩
  | .hbm, ⟨57, _⟩ => ⟨S15x50000, .f32⟩
  | .hbm, ⟨58, _⟩ => ⟨S15x50000, .i1⟩
  | .hbm, ⟨59, _⟩ => ⟨S1x50000, .f32⟩
  | .hbm, ⟨60, _⟩ => ⟨S15x50000, .f32⟩
  | .hbm, ⟨61, _⟩ => ⟨S15x50000, .f32⟩
  | .hbm, ⟨62, _⟩ => ⟨S15x50000, .i1⟩
  | .hbm, ⟨63, _⟩ => ⟨S15x50000, .i1⟩
  | .hbm, ⟨64, _⟩ => ⟨S15x50000, .f32⟩
  | .hbm, ⟨65, _⟩ => ⟨S_, .f32⟩
  | .hbm, ⟨66, _⟩ => ⟨S15, .f32⟩
  | .hbm, ⟨67, _⟩ => ⟨S_, .f32⟩
  | .hbm, ⟨68, _⟩ => ⟨S15, .f32⟩
  | .hbm, ⟨69, _⟩ => ⟨S15, .f32⟩
  | .hbm, ⟨70, _⟩ => ⟨S_, .f32⟩
  | .hbm, ⟨71, _⟩ => ⟨S15, .f32⟩
  | .hbm, ⟨72, _⟩ => ⟨S_, .f32⟩
  | .hbm, ⟨73, _⟩ => ⟨S15, .f32⟩
  | .hbm, ⟨74, _⟩ => ⟨S15, .i1⟩
  | .hbm, ⟨75, _⟩ => ⟨S_, .f32⟩
  | .hbm, ⟨76, _⟩ => ⟨S_, .f32⟩
  | .hbm, ⟨77, _⟩ => ⟨S15, .f32⟩
  | .hbm, ⟨78, _⟩ => ⟨S15, .f32⟩
  | .hbm, ⟨79, _⟩ => ⟨S1x50000, .f32⟩
  | .hbm, ⟨80, _⟩ => ⟨S15x50000, .f32⟩
  | .hbm, ⟨81, _⟩ => ⟨S15x50000, .f32⟩
  | .hbm, ⟨82, _⟩ => ⟨S_, .f32⟩
  | .hbm, ⟨83, _⟩ => ⟨S15, .f32⟩
  | .hbm, ⟨84, _⟩ => ⟨S15, .f32⟩
  | .hbm, ⟨85, _⟩ => ⟨S1x50000, .f32⟩
  | .hbm, ⟨86, _⟩ => ⟨S15x50000, .f32⟩
  | .hbm, ⟨87, _⟩ => ⟨S15x50000, .f32⟩
  | .hbm, ⟨88, _⟩ => ⟨S_, .f32⟩
  | .hbm, ⟨89, _⟩ => ⟨S15, .f32⟩
  | .hbm, ⟨90, _⟩ => ⟨S15, .f32⟩
  | .hbm, ⟨91, _⟩ => ⟨S15, .f32⟩
  | .hbm, ⟨92, _⟩ => ⟨S15, .f32⟩
  | .hbm, ⟨93, _⟩ => ⟨S15, .f32⟩
  | .hbm, ⟨94, _⟩ => ⟨S_, .f32⟩
  | .hbm, ⟨95, _⟩ => ⟨S15, .f32⟩
  | .hbm, ⟨96, _⟩ => ⟨S15, .i1⟩
  | .hbm, ⟨97, _⟩ => ⟨S_, .f32⟩
  | .hbm, ⟨98, _⟩ => ⟨S_, .f32⟩
  | .hbm, ⟨99, _⟩ => ⟨S15, .f32⟩
  | .hbm, ⟨100, _⟩ => ⟨S15, .f32⟩
  | .hbm, ⟨101, _⟩ => ⟨S_, .f32⟩
  | .hbm, ⟨102, _⟩ => ⟨S_, .f32⟩
  | .hbm, ⟨103, _⟩ => ⟨S1, .f32⟩
  | _, _ => ⟨S50000x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_c_2 : Ref sig .tc := ⟨.hbm, 5, rfl⟩
abbrev main_cst : Ref sig .tc := ⟨.hbm, 6, rfl⟩
abbrev main_c_3 : Ref sig .tc := ⟨.hbm, 7, rfl⟩
abbrev main_cst_4 : Ref sig .tc := ⟨.hbm, 8, rfl⟩
abbrev main_v0 : Ref sig .tc := ⟨.hbm, 9, rfl⟩
abbrev main_cst_5 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_7 : Ref sig .tc := ⟨.hbm, 22, rfl⟩
abbrev main_v11 : Ref sig .tc := ⟨.hbm, 23, rfl⟩
abbrev main_call0_v0 : Ref sig .tc := ⟨.hbm, 24, rfl⟩
abbrev main_call0_cst : Ref sig .tc := ⟨.hbm, 25, rfl⟩
abbrev main_call0_c : Ref sig .tc := ⟨.hbm, 26, rfl⟩
abbrev main_call0_v1_0 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_c_8 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_9 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_call2_v0 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_10 : Ref sig .tc := ⟨.hbm, 65, rfl⟩
abbrev main_v46 : Ref sig .tc := ⟨.hbm, 66, rfl⟩
abbrev main_cst_11 : Ref sig .tc := ⟨.hbm, 67, rfl⟩
abbrev main_v47 : Ref sig .tc := ⟨.hbm, 68, rfl⟩
abbrev main_v48 : Ref sig .tc := ⟨.hbm, 69, rfl⟩
abbrev main_cst_12 : Ref sig .tc := ⟨.hbm, 70, rfl⟩
abbrev main_v49 : Ref sig .tc := ⟨.hbm, 71, rfl⟩
abbrev main_cst_13 : Ref sig .tc := ⟨.hbm, 72, rfl⟩
abbrev main_v50 : Ref sig .tc := ⟨.hbm, 73, rfl⟩
abbrev main_v51 : Ref sig .tc := ⟨.hbm, 74, rfl⟩
abbrev main_cst_14 : Ref sig .tc := ⟨.hbm, 75, rfl⟩
abbrev main_call3_v0 : Ref sig .tc := ⟨.hbm, 76, rfl⟩
abbrev main_call3_v1 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_15 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_16 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_cst_17 : Ref sig .tc := ⟨.hbm, 94, rfl⟩
abbrev main_v66 : Ref sig .tc := ⟨.hbm, 95, rfl⟩
abbrev main_v67 : Ref sig .tc := ⟨.hbm, 96, rfl⟩
abbrev main_cst_18 : Ref sig .tc := ⟨.hbm, 97, rfl⟩
abbrev main_call4_v0 : Ref sig .tc := ⟨.hbm, 98, rfl⟩
abbrev main_call4_v1 : Ref sig .tc := ⟨.hbm, 99, rfl⟩
abbrev main_v68 : Ref sig .tc := ⟨.hbm, 100, rfl⟩
abbrev main_cst_19 : Ref sig .tc := ⟨.hbm, 101, rfl⟩
abbrev main_v69 : Ref sig .tc := ⟨.hbm, 102, rfl⟩
abbrev main_v70 : Ref sig .tc := ⟨.hbm, 103, rfl⟩

abbrev nD : Nat := 1
abbrev τ : Topo := Topo.v7x

variable {F : FTy → Type} [FloatOps F]
-- ==== Proof.RowValue.lean ====
/-
  What the first call computes of one row of logits, over the extended reals, as plain functions of the row.
-/
module

public import Idealize.ShloMosaic.Lib.Pointwise
public import Idealize.ShloMosaic.Lib.IdealHost

@[expose] public section

noncomputable section

namespace Cert.Calib

open Idealize.ShloMosaic

/-- The largest entry of a row. -/
def rowMax (x : Fin 1000 → EReal) : EReal := Finset.univ.fold max (Ideal.ofBits .f32 0xFF800000#32) x

/-- The confidence of a row as the kernel writes it: one over the sum of the shifted exponentials. -/
def rowConf (x : Fin 1000 → EReal) : EReal := Ideal.div 1 (∑ k, Ideal.exp (x k - rowMax x))

/-- The first class whose entry is the row's largest, as a 32-bit word. -/
def rowArg (x : Fin 1000 → EReal) : BitVec 32 :=
  Finset.univ.fold IntOp.minsi 2147483647#32
    fun k : Fin 1000 => Scalar.select (Ideal.cmp .oeq (x k) (rowMax x)) (BitVec.ofNat 32 k.val) 1000#32

/-- One where the row's first largest class is the label, zero elsewhere. -/
def rowHit (x : Fin 1000 → EReal) (l : BitVec 32) : EReal :=
  if rowArg x = l then 1 else 0

/-- The row of the logits that entry `i` of a result of shape [25, 1, 2000] is about. -/
def rowOf (X : (⟨2, ![50000, 1000]⟩ : Shape).Idx → EReal) (i : (⟨3, ![25, 1, 2000]⟩ : Shape).Idx) (k : Fin 1000) : EReal :=
  X (ix2 ⟨(i 0).val * 2000 + (i 2).val, by have h0 : (i 0).val < 25 := (i 0).isLt; have h2 : (i 2).val < 2000 := (i 2).isLt; omega⟩ k)

/-- The confidences of all rows. -/
def confs (X : (⟨2, ![50000, 1000]⟩ : Shape).Idx → EReal) : (⟨3, ![25, 1, 2000]⟩ : Shape).Idx → EReal := fun i => rowConf (rowOf X i)

/-- Whether each row's first largest class is its label. -/
def accs (X : (⟨2, ![50000, 1000]⟩ : Shape).Idx → EReal) (L : (⟨1, ![50000]⟩ : Shape).Idx → BitVec 32) :
    (⟨3, ![25, 1, 2000]⟩ : Shape).Idx → EReal := fun i =>
  rowHit (rowOf X i) (L (ix1 ⟨(i 0).val * 2000 + (i 2).val, by have h0 : (i 0).val < 25 := (i 0).isLt; have h2 : (i 2).val < 2000 := (i 2).isLt; omega⟩))

end Cert.Calib

end
-- ==== Proof.RowMath.lean ====
/-
  The mathematics of the first call, one row at a time: of a row whose largest entry is a real number, the softmax's
  largest entry is one over the sum of the shifted exponentials, and the first class at which the softmax is largest is
  the first class at which the row is.
-/
module

public import proofs.«01_k».proof.Proof.RowValue

@[expose] public section

noncomputable section

namespace Cert.Calib

open Idealize.ShloMosaic

theorem negInf : Ideal.ofBits .f32 0xFF800000#32 = (⊥ : EReal) := by
  simp [Ideal.ofBits, Ideal.ieee]

theorem posInf : Ideal.ofBits .f32 0x7F800000#32 = (⊤ : EReal) := by
  simp [Ideal.ofBits, Ideal.ieee]

/-- What a fold by an operation that returns one of its two operands, and one below both of them in a transitive
    relation, returns: an element folded over or the start, below every other. -/
theorem fold_least {α ι : Type} [DecidableEq ι] (op : α → α → α) [Std.Commutative op] [Std.Associative op]
    (le : α → α → Prop) (hrefl : ∀ a, le a a) (htrans : ∀ a b c, le a b → le b c → le a c)
    (hop : ∀ a b, (op a b = a ∨ op a b = b) ∧ le (op a b) a ∧ le (op a b) b) (b : α) (f : ι → α) (s : Finset ι) :
    (s.fold op b f = b ∨ ∃ k ∈ s, s.fold op b f = f k) ∧ le (s.fold op b f) b ∧ ∀ k ∈ s, le (s.fold op b f) (f k) := by
  induction s using Finset.induction_on with
  | empty => simp [hrefl]
  | insert i s hi ih =>
    rw [Finset.fold_insert hi]
    obtain ⟨h1, h2, h3⟩ := ih
    obtain ⟨g1, g2, g3⟩ := hop (f i) (s.fold op b f)
    refine ⟨?_, htrans _ _ _ g3 h2, ?_⟩
    · rcases g1 with g | g
      · exact .inr ⟨i, by simp, g⟩
      · rw [g]
        rcases h1 with h | ⟨k, hk, h⟩
        · exact .inl h
        · exact .inr ⟨k, by simp [hk], h⟩
    · intro k hk
      rcases Finset.mem_insert.mp hk with rfl | hk
      · exact g2
      · exact htrans _ _ _ g3 (h3 k hk)

theorem fold_max_spec {ι : Type} [Fintype ι] [DecidableEq ι] (b : EReal) (f : ι → EReal) :
    ((Finset.univ.fold max b f = b ∨ ∃ k, Finset.univ.fold max b f = f k) ∧ b ≤ Finset.univ.fold max b f
      ∧ ∀ k, f k ≤ Finset.univ.fold max b f) := by
  have h := fold_least (max : EReal → EReal → EReal) (fun a b => b ≤ a) (fun _ => le_rfl) (fun _ _ _ h g => g.trans h)
    (fun a b => ⟨max_choice a b, le_max_left a b, le_max_right a b⟩) b f Finset.univ
  simpa using h

/-- The fold of the signed minimum is the least word it meets. -/
theorem fold_minsi_eq {ι : Type} [Fintype ι] [DecidableEq ι] (b : BitVec 32) (f : ι → BitVec 32) (w : BitVec 32)
    (hw : ∃ k, f k = w) (hb : w.toInt ≤ b.toInt) (hf : ∀ k, w.toInt ≤ (f k).toInt) :
    Finset.univ.fold IntOp.minsi b f = w := by
  have h := fold_least (IntOp.minsi : BitVec 32 → BitVec 32 → BitVec 32) (fun a b => a.toInt ≤ b.toInt) (fun _ => le_rfl)
    (fun _ _ _ h g => h.trans g)
    (fun a b => by
      unfold IntOp.minsi
      split
      · rename_i h; simp [BitVec.slt] at h; exact ⟨.inl rfl, le_rfl, h.le⟩
      · rename_i h; simp [BitVec.slt] at h; exact ⟨.inr rfl, h, le_rfl⟩) b f Finset.univ
  obtain ⟨h1, h2, h3⟩ := h
  apply BitVec.eq_of_toInt_eq
  apply le_antisymm
  · obtain ⟨k, rfl⟩ := hw
    exact h3 k (Finset.mem_univ k)
  · rcases h1 with h | ⟨k, -, h⟩
    · rw [h]; exact hb
    · rw [h]; exact hf k

/-- A finite sum of real numbers, taken in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

section Row

variable (x : Fin 1000 → EReal)

theorem le_rowMax (k : Fin 1000) : x k ≤ rowMax x := (fold_max_spec _ x).2.2 k

theorem exists_rowMax (h : rowMax x ≠ ⊥) : ∃ k, x k = rowMax x := by
  rcases (fold_max_spec (Ideal.ofBits .f32 0xFF800000#32) x).1 with h' | ⟨k, hk⟩
  · exact absurd (h'.trans negInf) h
  · exact ⟨k, hk.symm⟩

/-- The shifted exponential of an entry, as a real number. -/
def expoR (k : Fin 1000) : ℝ := if x k = ⊥ then 0 else Real.exp ((x k).toReal - (rowMax x).toReal)

variable (hb : rowMax x ≠ ⊥) (ht : rowMax x ≠ ⊤)
include hb ht

theorem expo_eq (k : Fin 1000) : Ideal.exp (x k - rowMax x) = (expoR x k : EReal) := by
  have hk : x k ≠ ⊤ := fun h => ht (top_le_iff.mp (h ▸ le_rowMax x k))
  unfold expoR
  generalize hM : rowMax x = M at *
  lift M to ℝ using ⟨ht, hb⟩
  split
  · rename_i h
    rw [h, EReal.bot_sub]; rfl
  · rename_i h
    generalize x k = y at *
    lift y to ℝ using ⟨hk, h⟩
    rfl

omit ht hb in
theorem expoR_nonneg (k : Fin 1000) : 0 ≤ expoR x k := by
  unfold expoR; split
  · exact le_rfl
  · exact (Real.exp_pos _).le

theorem expoR_eq_one_iff (k : Fin 1000) : expoR x k = 1 ↔ x k = rowMax x := by
  have hk : x k ≠ ⊤ := fun h => ht (top_le_iff.mp (h ▸ le_rowMax x k))
  unfold expoR
  generalize hM : rowMax x = M at *
  lift M to ℝ using ⟨ht, hb⟩
  split
  · rename_i h
    rw [h]; simp
  · rename_i h
    generalize x k = y at *
    lift y to ℝ using ⟨hk, h⟩
    simp [sub_eq_zero]

theorem expoR_le_one (k : Fin 1000) : expoR x k ≤ 1 := by
  have hk : x k ≠ ⊤ := fun h => ht (top_le_iff.mp (h ▸ le_rowMax x k))
  have hle := le_rowMax x k
  unfold expoR
  generalize hM : rowMax x = M at *
  lift M to ℝ using ⟨ht, hb⟩
  split
  · norm_num
  · rename_i h
    generalize x k = y at *
    lift y to ℝ using ⟨hk, h⟩
    rw [Real.exp_le_one_iff]
    simpa using hle

theorem one_le_sum : 1 ≤ ∑ k, expoR x k := by
  obtain ⟨k, hk⟩ := exists_rowMax x hb
  rw [← (expoR_eq_one_iff x hb ht k).mpr hk]
  exact Finset.single_le_sum (fun j _ => expoR_nonneg x j) (Finset.mem_univ k)

theorem sum_eq : ∑ k, Ideal.exp (x k - rowMax x) = ((∑ k, expoR x k : ℝ) : EReal) := by
  rw [funext fun k => expo_eq x hb ht k, coe_sum]

/-- An entry of the softmax is the real quotient. -/
theorem soft_eq (k : Fin 1000) : Ideal.div (Ideal.exp (x k - rowMax x)) (∑ k, Ideal.exp (x k - rowMax x))
    = ((expoR x k / ∑ k, expoR x k : ℝ) : EReal) := by
  have h1 := one_le_sum x hb ht
  rw [sum_eq x hb ht, expo_eq x hb ht, Ideal.div_coe (by linarith), ← EReal.coe_mul]
  congr 1; ring

theorem rowConf_eq : rowConf x = ((1 / ∑ k, expoR x k : ℝ) : EReal) := by
  have h1 := one_le_sum x hb ht
  unfold rowConf
  rw [sum_eq x hb ht, Ideal.div_coe (by linarith), one_mul]

/-- The softmax's largest entry is one over the sum. -/
theorem soft_max : Finset.univ.fold max (Ideal.ofBits .f32 0xFF800000#32)
      (fun k => Ideal.div (Ideal.exp (x k - rowMax x)) (∑ k, Ideal.exp (x k - rowMax x))) = rowConf x := by
  have h1 := one_le_sum x hb ht
  rw [rowConf_eq x hb ht, funext fun k => soft_eq x hb ht k]
  obtain ⟨g1, g2, g3⟩ := fold_max_spec (Ideal.ofBits .f32 0xFF800000#32) fun k => ((expoR x k / ∑ k, expoR x k : ℝ) : EReal)
  obtain ⟨k, hk⟩ := exists_rowMax x hb
  apply le_antisymm
  · rcases g1 with g | ⟨j, g⟩
    · rw [g, negInf]; exact bot_le
    · rw [g, EReal.coe_le_coe_iff]
      exact div_le_div_of_nonneg_right (expoR_le_one x hb ht j) (by linarith)
  · have := g3 k
    rw [(expoR_eq_one_iff x hb ht k).mpr hk] at this
    exact this

/-- Where the softmax attains its largest entry the row attains its own. -/
theorem soft_attains (k : Fin 1000) (h : ∀ j, Ideal.div (Ideal.exp (x j - rowMax x)) (∑ k, Ideal.exp (x k - rowMax x))
      ≤ Ideal.div (Ideal.exp (x k - rowMax x)) (∑ k, Ideal.exp (x k - rowMax x))) : x k = rowMax x := by
  have h1 := one_le_sum x hb ht
  obtain ⟨j, hj⟩ := exists_rowMax x hb
  have := h j
  rw [soft_eq x hb ht, soft_eq x hb ht, EReal.coe_le_coe_iff, (expoR_eq_one_iff x hb ht j).mpr hj,
    div_le_div_iff_of_pos_right (by linarith)] at this
  exact (expoR_eq_one_iff x hb ht k).mp (le_antisymm (expoR_le_one x hb ht k) this)

omit ht hb in
/-- A class at which the row is largest, and before which it is not, is the one that the kernel finds. -/
theorem rowArg_eq (k : Fin 1000) (hk : x k = rowMax x) (hmin : ∀ j, x j = rowMax x → k ≤ j) :
    rowArg x = BitVec.ofNat 32 k.val := by
  have toI : ∀ n : ℕ, n ≤ 1000 → (BitVec.ofNat 32 n).toInt = n := fun n hn => by
    rw [BitVec.toInt_eq_toNat_of_lt] <;> simp <;> omega
  have hk' := toI k.val k.isLt.le
  refine fold_minsi_eq _ _ _ ⟨k, ?_⟩ ?_ fun j => ?_
  · simp [Scalar.select, Ideal.cmp, hk]
  · rw [hk']; have := k.isLt
    have e : (2147483647#32 : BitVec 32).toInt = 2147483647 := by decide
    rw [e]; omega
  · rw [hk']
    by_cases hj : x j = rowMax x
    · have := hmin j hj
      simp only [Scalar.select, Ideal.cmp, hj, decide_true, BitVec.ofBool_true, if_true]
      rw [toI j.val j.isLt.le]; exact_mod_cast this
    · have e : Ideal.cmp .oeq (x j) (rowMax x) = 0#1 := by simp [Ideal.cmp, hj]
      rw [e, show Scalar.select 0#1 (BitVec.ofNat 32 j.val) 1000#32 = 1000#32 from rfl,
        show (1000#32 : BitVec 32).toInt = 1000 from by decide]
      have := k.isLt; omega

end Row

/-! ## The fold of the reference's arg-max -/

/-- The arg-max's step: the larger value, and of two equal values the smaller index. -/
def pick (a b : EReal × BitVec 32) : EReal × BitVec 32 :=
  if b.1 < a.1 ∨ (a.1 = b.1 ∧ a.2.toInt < b.2.toInt) then a else b

/-- `p` comes before `q`: a larger value, or the same value at no larger an index. -/
def Before (p q : EReal × BitVec 32) : Prop := q.1 < p.1 ∨ (p.1 = q.1 ∧ p.2.toInt ≤ q.2.toInt)

theorem Before.refl (p : EReal × BitVec 32) : Before p p := .inr ⟨rfl, le_rfl⟩

theorem Before.trans {p q r : EReal × BitVec 32} (h : Before p q) (g : Before q r) : Before p r := by
  rcases h with h | ⟨h, h'⟩ <;> rcases g with g | ⟨g, g'⟩
  · exact .inl (g.trans h)
  · exact .inl (g ▸ h)
  · exact .inl (h ▸ g)
  · exact .inr ⟨h.trans g, h'.trans g'⟩

theorem pick_before (a b : EReal × BitVec 32) : Before (pick a b) a ∧ Before (pick a b) b := by
  unfold pick
  split
  · rename_i h
    refine ⟨.refl a, ?_⟩
    rcases h with h | ⟨h, h'⟩
    · exact .inl h
    · exact .inr ⟨h, h'.le⟩
  · rename_i h
    refine ⟨?_, .refl b⟩
    push Not at h
    rcases lt_or_eq_of_le h.1 with g | g
    · exact .inl g
    · exact .inr ⟨g.symm, h.2 g⟩

theorem foldl_pick (L : List (EReal × BitVec 32)) (a : EReal × BitVec 32) :
    L.foldl pick a ∈ a :: L ∧ ∀ q ∈ a :: L, Before (L.foldl pick a) q := by
  induction L generalizing a with
  | nil => simp [Before.refl]
  | cons b L ih =>
    obtain ⟨h1, h2⟩ := ih (pick a b)
    rw [List.foldl_cons]
    refine ⟨?_, ?_⟩
    · rcases List.mem_cons.mp h1 with h | h
      · rw [h]; unfold pick; split <;> simp
      · simp [h]
    · have hp := h2 (pick a b) (by simp)
      intro q hq
      rcases List.mem_cons.mp hq with rfl | hq
      · exact hp.trans (pick_before q b).1
      · rcases List.mem_cons.mp hq with rfl | hq
        · exact hp.trans (pick_before a q).2
        · exact h2 q (by simp [hq])

/-- The pairs that a two-operand reduction along the second axis folds over at row `r` are those of the row. -/
theorem mem_argReduceFiber {n0 n1 : Nat} {α β : Type} (x : (⟨2, ![n0, n1]⟩ : Shape).Idx → α) (y : (⟨2, ![n0, n1]⟩ : Shape).Idx → β)
    (h : (⟨2, ![n0, n1]⟩ : Shape).ReducesTo [1] ⟨1, ![n0]⟩) (r : Fin n0) (p : α × β) :
    p ∈ Host.argReduceFiber x y h (ix1 r) ↔ ∃ k : Fin n1, p = (x (ix2 r k), y (ix2 r k)) := by
  have hd : ∀ i, h.drop i = ix1 r ↔ ∃ k : Fin n1, ix2 r k = i := fun i => Shape.ReducesTo.fiber_r2_a1 h (ix1 r) i
  unfold Host.argReduceFiber
  rw [List.mem_map]
  constructor
  · rintro ⟨n, hn, rfl⟩
    rw [List.mem_filter, decide_eq_true_iff, hd] at hn
    obtain ⟨-, k, hk⟩ := hn
    exact ⟨k, by rw [hk]⟩
  · rintro ⟨k, rfl⟩
    refine ⟨Shape.rowMajor _ (ix2 r k), ?_, by rw [Equiv.symm_apply_apply]⟩
    rw [List.mem_filter, decide_eq_true_iff, hd, Equiv.symm_apply_apply]
    exact ⟨List.mem_finRange _, k, rfl⟩

/-- The arg-max along the second axis, at a row all of whose values are above the start's: the index word of a class
    that no other class of the row comes before. -/
theorem reduce2_pick {n0 n1 : Nat} {u : Shape} (x : (⟨2, ![n0, n1]⟩ : Shape).Idx → EReal) (y : (⟨2, ![n0, n1]⟩ : Shape).Idx → BitVec 32)
    (ix : u.Idx → EReal) (iy : u.Idx → BitVec 32)
    (h : (⟨2, ![n0, n1]⟩ : Shape).ReducesTo [1] ⟨1, ![n0]⟩) (hu : 0 < u.numel) (r : Fin n0) (k0 : Fin n1)
    (hx : ix (Shape.Idx.first hu) < x (ix2 r k0)) :
    ∃ k : Fin n1, (Host.reduce2 pick x y ix iy h hu (ix1 r)).2 = y (ix2 r k)
      ∧ ∀ j : Fin n1, Before (x (ix2 r k), y (ix2 r k)) (x (ix2 r j), y (ix2 r j)) := by
  rw [Host.reduce2_eq_foldl_fiber]
  generalize hL : Host.argReduceFiber x y h (ix1 r) = L
  have hm : ∀ p, p ∈ L ↔ ∃ k : Fin n1, p = (x (ix2 r k), y (ix2 r k)) := fun p => hL ▸ mem_argReduceFiber x y h r p
  obtain ⟨g1, g2⟩ := foldl_pick L (ix (Shape.Idx.first hu), iy (Shape.Idx.first hu))
  have hin : L.foldl pick (ix (Shape.Idx.first hu), iy (Shape.Idx.first hu)) ∈ L := by
    rcases List.mem_cons.mp g1 with g | g
    · have := g2 _ (List.mem_cons_of_mem _ ((hm _).mpr ⟨k0, rfl⟩))
      rw [g] at this
      rcases this with e | ⟨e, -⟩
      · exact absurd e (not_lt.mpr hx.le)
      · exact absurd e hx.ne
    · exact g
  obtain ⟨k, hk⟩ := (hm _).mp hin
  refine ⟨k, by rw [hk], fun j => ?_⟩
  rw [← hk]
  exact g2 _ (List.mem_cons_of_mem _ ((hm _).mpr ⟨j, rfl⟩))

/-- The arg-max of the softmax of a row, from any value below all of its entries. -/
theorem rowArg_of_before (x : Fin 1000 → EReal) (hb : rowMax x ≠ ⊥) (ht : rowMax x ≠ ⊤) (s : Fin 1000 → EReal)
    (hs : ∀ k, s k = Ideal.div (Ideal.exp (x k - rowMax x)) (∑ j, Ideal.exp (x j - rowMax x))) (k : Fin 1000)
    (h : ∀ j : Fin 1000, Before (s k, BitVec.ofNat 32 k.val) (s j, BitVec.ofNat 32 j.val)) :
    BitVec.ofNat 32 k.val = rowArg x := by
  have hk : x k = rowMax x := by
    refine soft_attains x hb ht k fun j => ?_
    rw [← hs, ← hs]
    rcases h j with g | ⟨g, -⟩
    · exact g.le
    · exact g.symm.le
  refine (rowArg_eq x k hk fun j hj => ?_).symm
  have e : s k = s j := by rw [hs, hs, hk, hj]
  rcases h j with g | ⟨-, g⟩
  · exact absurd g (by simp [e])
  · have toI : ∀ n : ℕ, n ≤ 1000 → (BitVec.ofNat 32 n).toInt = n := fun n hn => by
      rw [BitVec.toInt_eq_toNat_of_lt] <;> simp <;> omega
    simp only [toI k.val k.isLt.le, toI j.val j.isLt.le] at g
    exact_mod_cast g

/-- No entry of the softmax is the least extended real. -/
theorem bot_lt_soft (x : Fin 1000 → EReal) (hb : rowMax x ≠ ⊥) (ht : rowMax x ≠ ⊤) (k : Fin 1000) :
    Ideal.ofBits .f32 0xFF800000#32 < Ideal.div (Ideal.exp (x k - rowMax x)) (∑ j, Ideal.exp (x j - rowMax x)) := by
  rw [soft_eq x hb ht, negInf]
  exact EReal.bot_lt_coe _

/-- The reference's arg-max of the softmax, at a row. -/
theorem argReduce_at {n0 : Nat} {u : Shape} (S : FVec Ideal ⟨2, ![n0, 1000]⟩ .f32) (Y : IVec ⟨2, ![n0, 1000]⟩ 32)
    (C : FVec Ideal u .f32) (I : IVec u 32) (h : (⟨2, ![n0, 1000]⟩ : Shape).ReducesTo [1] ⟨1, ![n0]⟩) (hu : 0 < u.numel)
    (r : Fin n0) (hY : ∀ k, Y (ix2 r k) = BitVec.ofNat 32 k.val) (hC : ∀ i, (C i : EReal) = Ideal.ofBits .f32 0xFF800000#32)
    (x : Fin 1000 → EReal) (hb : rowMax x ≠ ⊥) (ht : rowMax x ≠ ⊤)
    (hs : ∀ k, (S (ix2 r k) : EReal) = Ideal.div (Ideal.exp (x k - rowMax x)) (∑ j, Ideal.exp (x j - rowMax x))) :
    (Host.argReduce (φ := .f32) pick S Y C I h hu (ix1 r)).2 = rowArg x := by
  rw [Ideal.argReduce_eq_reduce2]
  obtain ⟨k, hk, h⟩ := reduce2_pick S Y C I h hu r 0 (by rw [hs, hC]; exact bot_lt_soft _ hb ht 0)
  rw [hY] at hk
  refine hk.trans (rowArg_of_before _ hb ht (fun k => S (ix2 r k)) hs k fun j => ?_)
  have h := h j
  rw [hY, hY] at h
  exact h

end Cert.Calib

end
-- ==== Proof.Pre.lean ====
/-
  The precondition, decoded: every row's largest logit is a real number.
-/
module

public import proofs.«01_k».proof.Proof.RowMath
public import proofs.«01_k».proof.Pre_rows_finite
public import Idealize.ShloMosaic.Lib.Pointwise
public import Idealize.ShloMosaic.Lib.Routing.OpsOrder

@[expose] public section

set_option maxRecDepth 16384

noncomputable section

open Idealize.ShloMosaic

namespace Cert.Pre_rows_finite.Proof

open Cert.Pre_rows_finite Cert.Calib

instance facts : Cert.Pre_rows_finite.Facts where
  reducesTo_S50000x1000_S50000_d1 := by decide
  h_S_ := by decide
  bcast_S_S50000 := by decide
  reducesTo_S50000_S_d0 := by decide

/-- A fold by the conjunction of single bits that ends at one has met only ones. -/
theorem fold_andi {ι : Type} [DecidableEq ι] (s : Finset ι) (f : ι → BitVec 1) (h : s.fold IntOp.andi 1#1 f = 1#1) :
    ∀ k ∈ s, f k = 1#1 := by
  induction s using Finset.induction_on with
  | empty => simp
  | insert i s hi ih =>
    rw [Finset.fold_insert hi] at h
    have both : ∀ a b : BitVec 1, IntOp.andi a b = 1#1 → a = 1#1 ∧ b = 1#1 := by decide
    obtain ⟨h1, h2⟩ := both _ _ h
    intro k hk
    rcases Finset.mem_insert.mp hk with rfl | hk
    · exact h1
    · exact ih h2 k hk

def maxes (X : FVec Ideal S50000x1000 .f32) : FVec Ideal S50000 .f32 :=
  Host.reduce FloatOps.maximumf X (constant S_ FTy.f32 0xFF800000#32) Facts.reducesTo_S50000x1000_S50000_d1 Facts.h_S_

theorem maxes_at (X : FVec Ideal S50000x1000 .f32) (r : Fin 50000) :
    (maxes X (ix1 r) : EReal) = rowMax fun k => X (ix2 r k) := by
  pointwise [maxes, rowMax]

def test (M : FVec Ideal S50000 .f32) : IVec S50000 1 :=
  andi (cmpf .ogt M (broadcastInDim S50000 ![] Facts.bcast_S_S50000 (constant S_ FTy.f32 0xFF800000#32)))
    (cmpf .olt M (broadcastInDim S50000 ![] Facts.bcast_S_S50000 (constant S_ FTy.f32 0x7F800000#32)))

theorem test_at (M : FVec Ideal S50000 .f32) (r : Fin 50000) (h : test M (ix1 r) = 1#1) :
    (M (ix1 r) : EReal) ≠ ⊥ ∧ (M (ix1 r) : EReal) ≠ ⊤ := by
  have both : ∀ a b : BitVec 1, IntOp.andi a b = 1#1 → a = 1#1 ∧ b = 1#1 := by decide
  have e : ∀ w : BitVec 32, (broadcastInDim S50000 ![] Facts.bcast_S_S50000 (constant (F := Ideal) S_ FTy.f32 w) (ix1 r) : EReal)
      = Ideal.ofBits .f32 w := fun w => by pointwise
  obtain ⟨h1, h2⟩ := both _ _ h
  have h1 : Ideal.cmp .ogt (M (ix1 r)) (broadcastInDim S50000 ![] Facts.bcast_S_S50000 (constant (F := Ideal) S_ FTy.f32 0xFF800000#32) (ix1 r)) = 1#1 := h1
  have h2 : Ideal.cmp .olt (M (ix1 r)) (broadcastInDim S50000 ![] Facts.bcast_S_S50000 (constant (F := Ideal) S_ FTy.f32 0x7F800000#32) (ix1 r)) = 1#1 := h2
  rw [e, negInf] at h1
  rw [e, posInf] at h2
  constructor
  · intro g; rw [g] at h1; simp [Ideal.cmp] at h1
  · intro g; rw [g] at h2; simp [Ideal.cmp] at h2

theorem all_at (b : IVec S50000 1)
    (h : Host.reduce IntOp.andi b (constantI S_ 1 1#1) Facts.reducesTo_S50000_S_d0 Facts.h_S_ = fun _ => 1#1) (r : Fin 50000) : b (ix1 r) = 1#1 := by
  have h := congrFun h ix0
  pointwise at h
  exact fold_andi _ _ h r (Finset.mem_univ r)

theorem finite (X : FVec Ideal S50000x1000 .f32) (L : IVec S50000 32) (h : fn X L = fun _ => 1#1) (r : Fin 50000) :
    rowMax (fun k => X (ix2 r k)) ≠ ⊥ ∧ rowMax (fun k => X (ix2 r k)) ≠ ⊤ := by
  have h : Host.reduce IntOp.andi (test (maxes X)) (constantI S_ 1 1#1) Facts.reducesTo_S50000_S_d0 Facts.h_S_ = fun _ => 1#1 := h
  rw [← maxes_at]
  exact test_at _ r (all_at _ h r)

end Cert.Pre_rows_finite.Proof

end
-- ==== Proof.RefRun.lean ====
/-
  The reference of the first call, run: its two results are the rows' confidences and hits.
-/
module

public import proofs.«01_k».proof.Proof.RowMath
public import proofs.«01_k».proof.Defs
public import proofs.«01_k».proof.Proof.Gen.ConfAccRefIdeal
public import Idealize.ShloMosaic.Lib.Claim

@[expose] public section

set_option maxRecDepth 16384

noncomputable section

open Idealize.ShloMosaic Idealize.ShloMosaic.TcCoe Idealize.SL.Sem

namespace Cert.Calib.Ref1

open Cert.ConfAccRefIdeal Cert.ConfAccRefIdeal.Gen Cert.Calib

def maxes (X : FVec Ideal S50000x1000 .f32) : FVec Ideal S50000 .f32 :=
  Host.reduce FloatOps.maximumf X (constant S_ FTy.f32 0xFF800000#32) reducesTo_S50000x1000_S50000_d1 h_S_

theorem maxes_at (X : FVec Ideal S50000x1000 .f32) (r : Fin 50000) :
    (maxes X (ix1 r) : EReal) = rowMax fun k => X (ix2 r k) := by
  pointwise [maxes, rowMax]

def rows (v : FVec Ideal S50000 .f32) : FVec Ideal S50000x1000 .f32 :=
  broadcastInDim S50000x1000 ![0, 1] bcast_S50000x1_S50000x1000_0_1 (broadcastInDim S50000x1 ![0] bcast_S50000_S50000x1_0 v)

theorem rows_at (v : FVec Ideal S50000 .f32) (r : Fin 50000) (k : Fin 1000) : rows v (ix2 r k) = v (ix1 r) := by
  pointwise [rows]

theorem bc_at (v : FVec Ideal S_ .f32) (r : Fin 50000) :
    broadcastInDim S50000 ![] bcast_S_S50000 v (ix1 r) = v ix0 := by
  pointwise

def maxes' (X : FVec Ideal S50000x1000 .f32) : FVec Ideal S50000 .f32 :=
  maximumf (broadcastInDim S50000 ![] bcast_S_S50000 (constant S_ FTy.f32 0xFF800000#32)) (maxes X)

theorem maxes'_at (X : FVec Ideal S50000x1000 .f32) (r : Fin 50000) :
    (maxes' X (ix1 r) : EReal) = max (Ideal.ofBits .f32 0xFF800000#32) (maxes X (ix1 r)) := by
  unfold maxes'
  generalize maxes X = v
  rw [maximumf_apply, bc_at]
  rfl

def expos (X : FVec Ideal S50000x1000 .f32) : FVec Ideal S50000x1000 .f32 :=
  Host.exp (subf X (rows (maxes' X)))

theorem expos_at (X : FVec Ideal S50000x1000 .f32) (r : Fin 50000) (k : Fin 1000) :
    (expos X (ix2 r k) : EReal) = Ideal.exp (X (ix2 r k) - maxes' X (ix1 r)) := by
  unfold expos
  generalize maxes' X = v
  rw [← rows_at v r k]
  rfl

def soft (X : FVec Ideal S50000x1000 .f32) : FVec Ideal S50000x1000 .f32 :=
  Host.divf (expos X) (rows (Host.reduceAdd (expos X) (constant S_ FTy.f32 0#32) reducesTo_S50000x1000_S50000_d1 h_S_))

theorem soft_at (X : FVec Ideal S50000x1000 .f32) (r : Fin 50000) (k : Fin 1000) :
    (soft X (ix2 r k) : EReal) = Ideal.div (expos X (ix2 r k)) (∑ k, expos X (ix2 r k)) := by
  pointwise [soft]
  rw [rows_at]
  pointwise

theorem reducer_eq : (reducer_argmax_f32_i32 (F := Ideal) : EReal × BitVec 32 → EReal × BitVec 32 → EReal × BitVec 32) = pick := by
  funext a b
  obtain ⟨a, i⟩ := a
  obtain ⟨b, j⟩ := b
  have hs : i.slt j = decide (i.toInt < j.toInt) := rfl
  simp only [reducer_argmax_f32_i32, pick, Ideal.cmpf_def, Ideal.cmp, IntOp.cmpi, hs, IntOp.ori, IntOp.andi, Scalar.select, ne_eq,
    not_true_eq_false, decide_false, BitVec.ofBool_false]
  rcases lt_trichotomy a b with h | h | h
  · simp [h.ne, not_lt.mpr h.le]
  · subst h
    by_cases g : i.toInt < j.toInt <;> simp [g]
  · simp [h, h.ne']

theorem iota_at (r : Fin 50000) (k : Fin 1000) : iotaInDim S50000x1000 32 1 (ix2 r k) = BitVec.ofNat 32 k.val := by
  pointwise

theorem start_at (i : S_.Idx) : (constant (F := Ideal) S_ FTy.f32 0xFF800000#32 i : EReal) = Ideal.ofBits .f32 0xFF800000#32 := by
  pointwise

/-- The value and index pairs that the reference's arg-max leaves, a pair per row. -/
def best (S : FVec Ideal S50000x1000 .f32) : S50000.Idx → EReal × BitVec 32 :=
  Host.argReduce (φ := .f32) (reducer_argmax_f32_i32 (F := Ideal)) S (iotaInDim S50000x1000 32 1) (constant (F := Ideal) S_ FTy.f32 0xFF800000#32)
    (constantI S_ 32 0#32) reducesTo_S50000x1000_S50000_d1 h_S_

theorem best_at (S : FVec Ideal S50000x1000 .f32) (r : Fin 50000) (x : Fin 1000 → EReal) (hb : rowMax x ≠ ⊥)
    (ht : rowMax x ≠ ⊤)
    (hs : ∀ k, (S (ix2 r k) : EReal) = Ideal.div (Ideal.exp (x k - rowMax x)) (∑ j, Ideal.exp (x j - rowMax x))) :
    (best S (ix1 r)).2 = rowArg x := by
  have h := argReduce_at S (iotaInDim S50000x1000 32 1) (constant (F := Ideal) S_ FTy.f32 0xFF800000#32)
    (constantI S_ 32 0#32) reducesTo_S50000x1000_S50000_d1 h_S_ r (iota_at r) start_at x hb ht hs
  rw [← reducer_eq] at h
  have e : best S = Host.argReduce (φ := .f32) (reducer_argmax_f32_i32 (F := Ideal)) S (iotaInDim S50000x1000 32 1) (constant (F := Ideal) S_ FTy.f32 0xFF800000#32)
    (constantI S_ 32 0#32) reducesTo_S50000x1000_S50000_d1 h_S_ := rfl
  rw [e]
  exact h

/-- Every row's largest entry is a real number. -/
def RowsFinite (X : (⟨2, ![50000, 1000]⟩ : Shape).Idx → EReal) : Prop :=
  ∀ r : Fin 50000, rowMax (fun k => X (ix2 r k)) ≠ ⊥ ∧ rowMax (fun k => X (ix2 r k)) ≠ ⊤

theorem soft_row (X : FVec Ideal S50000x1000 .f32) (r : Fin 50000) (k : Fin 1000) :
    (soft X (ix2 r k) : EReal) = Ideal.div (Ideal.exp (X (ix2 r k) - rowMax fun k => X (ix2 r k)))
      (∑ j, Ideal.exp (X (ix2 r j) - rowMax fun k => X (ix2 r k))) := by
  have e : ∀ j, (expos X (ix2 r j) : EReal) = Ideal.exp (X (ix2 r j) - rowMax fun k => X (ix2 r k)) := fun j => by
    rw [expos_at, maxes'_at, maxes_at, negInf, max_eq_right bot_le]
  rw [soft_at, e, funext e]

def res15 (S : FVec Ideal S50000x1000 .f32) : FVec Ideal S25x1x2000 .f32 :=
  shapeCast S25x1x2000 (Host.reduce FloatOps.maximumf S (constant S_ FTy.f32 0xFF800000#32) reducesTo_S50000x1000_S50000_d1 h_S_)
    shapeCasts_S50000_S25x1x2000

theorem res15_at (S : FVec Ideal S50000x1000 .f32) (i : S25x1x2000.Idx) : (res15 S i : EReal)
    = Finset.univ.fold max (Ideal.ofBits .f32 0xFF800000#32) (rowOf S i) := by
  pointwise [res15, rowOf]

theorem res15_eq (X : FVec Ideal S50000x1000 .f32) (h : RowsFinite X) : res15 (soft X) = confs X := by
  funext i
  refine (res15_at (soft X) i).trans ?_
  rw [show rowOf (soft X) i = _ from funext fun k => soft_row X _ k]
  exact soft_max _ (h _).1 (h _).2

def res16 (b : IVec S50000 32) (L : IVec S50000 32) : FVec Ideal S25x1x2000 .f32 :=
  shapeCast S25x1x2000 (uitofp (F := Ideal) .f32 (cmpi CmpIPredicate.eq b L)) shapeCasts_S50000_S25x1x2000

theorem bit_at (a b : BitVec 32) : (FloatOps.uitofp (F := Ideal) .f32 (IntOp.cmpi .eq a b) : EReal) = if a = b then 1 else 0 := by
  show (((IntOp.cmpi .eq a b).toNat : ℝ) : EReal) = _
  by_cases h : a = b <;> simp [IntOp.cmpi, h]

theorem res16_at (b L : IVec S50000 32) (i : S25x1x2000.Idx) :
    (res16 b L i : EReal) = if b (ix1 ⟨(i 0).val * 2000 + (i 2).val, by have h0 : (i 0).val < 25 := (i 0).isLt; have h2 : (i 2).val < 2000 := (i 2).isLt; omega⟩)
      = L (ix1 ⟨(i 0).val * 2000 + (i 2).val, by have h0 : (i 0).val < 25 := (i 0).isLt; have h2 : (i 2).val < 2000 := (i 2).isLt; omega⟩) then 1 else 0 := by
  refine Eq.trans ?_ (bit_at _ _)
  pointwise [res16]

theorem res16_eq (X : FVec Ideal S50000x1000 .f32) (L : IVec S50000 32) (h : RowsFinite X) :
    res16 (fun j => (best (soft X) j).2) L = accs X L := by
  funext i
  refine (res16_at _ L i).trans ?_
  beta_reduce
  rw [best_at (soft X) _ (rowOf X i) (h _).1 (h _).2 fun k => soft_row X _ k]
  rfl

variable (m : (ℓ : Loc nD τ sig) → Buf (Elt Ideal) ℓ) (ρ : Dev nD → PrngReg)

theorem run (h : ∀ c : Dev nD, RowsFinite (m ((c : Thread nD τ).loc main_arg0))) :
    θ_run defs (onTc (τ := τ) (main (F := Ideal))) ⟨m, fun _ => 0, ρ⟩ fun r => ∀ c : Dev nD,
      r.2.mem ((c : Thread nD τ).loc main_v15) = confs (m ((c : Thread nD τ).loc main_arg0))
      ∧ r.2.mem ((c : Thread nD τ).loc main_v16) = accs (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) := by
  hlo_run
  · rw [← res15_eq _ (h c)]
    rfl
  · rw [← res16_eq _ _ (h c)]
    rfl

theorem kept :
    θ_run defs (onTc (τ := τ) (main (F := Ideal))) ⟨m, fun _ => 0, ρ⟩ fun r => ∀ c : Dev nD,
      r.2.mem ((c : Thread nD τ).loc main_arg0) = m ((c : Thread nD τ).loc main_arg0)
      ∧ r.2.mem ((c : Thread nD τ).loc main_arg1) = m ((c : Thread nD τ).loc main_arg1) := by
  hlo_run

theorem frame :
    θ_run defs (onTc (τ := τ) (main (F := Ideal))) ⟨m, fun _ => 0, ρ⟩ fun r => (∀ c : Dev nD,
      r.2.mem ((c : Thread nD τ).loc main_arg0) = m ((c : Thread nD τ).loc main_arg0)
      ∧ r.2.mem ((c : Thread nD τ).loc main_arg1) = m ((c : Thread nD τ).loc main_arg1))
      ∧ r.2.sem = fun _ => 0 :=
  (θ_run defs _ _).mono (fun r h => ⟨h, Idealize.ShloMosaic.sem_eq_zero_of_no_sems (by decide) r.2⟩) (kept m ρ)

end Cert.Calib.Ref1
end
-- ==== Proof.KernelValue.lean ====
module

public import proofs.«01_k».proof.Proof.RowValue
public import proofs.«01_k».proof.Proof.Gen.ConfAccIdeal.Value
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Calib.Kernel1

open Cert.ConfAccIdeal Cert.ConfAccIdeal.Gen Cert.Calib

theorem pay2_at (x : FVec Ideal S2000x1000 .f32) (r : Fin 2000) :
    (k0_pay2 (F := Ideal) x (ix3 0 0 r) : EReal) = rowConf fun k => x (ix2 r k) := by
  pointwise [k0_pay2, k0_pay1, rowConf, rowMax]

theorem bit_at (a b : BitVec 32) :
    (FloatOps.sitofp (F := Ideal) .f32 (BitVec.setWidth 32 (IntOp.cmpi .eq a b)) : EReal) = if a = b then 1 else 0 := by
  show (((BitVec.setWidth 32 (IntOp.cmpi .eq a b)).toInt : ℝ) : EReal) = _
  by_cases h : a = b
  · simp [IntOp.cmpi, h]
  · have e : (a == b) = false := by simp [h]
    simp [IntOp.cmpi, h, e]

theorem pay3_at (x : FVec Ideal S2000x1000 .f32) (l : IVec S1x1x2000 32) (r : Fin 2000) :
    (k0_pay3 (F := Ideal) x l (ix3 0 0 r) : EReal) = rowHit (fun k => x (ix2 r k)) (l (ix3 0 0 r)) := by
  refine Eq.trans ?_ (bit_at _ _)
  pointwise [k0_pay3, k0_pay1, rowArg, rowMax]

variable (m : (ℓ : Loc nD τ sig) → Buf (Elt Ideal) ℓ) (ρ : Dev nD → PrngReg)

theorem idx : ∀ t : Fin cfg0.N, win0_0.index t = ![t.val, 0] ∧ win0_1.index t = ![t.val, 0, 0]
    ∧ win0_2.index t = ![t.val, 0, 0] ∧ win0_3.index t = ![t.val, 0, 0] :=
  (by decide +kernel : ∀ t : Fin grid0.N, _)

theorem point2 (c : Dev nD) (t : Fin cfg0.N) (y : S1x1x2000.Idx) :
    (k0_pay2 (F := Ideal) (iblk m c 0 t) y : EReal) = confs (m ((c : Thread nD τ).loc main_arg0)) (((cfg0.win 2).blk t).view.emb y) := by
  idx_vars y
  obtain rfl : y0 = 0 := Subsingleton.elim _ _
  obtain rfl : y1 = 0 := Subsingleton.elim _ _
  refine (pay2_at _ y2).trans (congrArg rowConf (funext fun k => ?_))
  unfold rowOf
  blk_ext [iblk, V, idx t]

/-- The labels as the region finds them: the argument, reshaped. -/
theorem labels_eq (c : Dev nD) : V m c main_v0 = shapeCast (s := S50000) S25x1x2000 (m ((c : Thread nD τ).loc main_arg1)) shapeCasts_S50000_S25x1x2000 := by
  entry_read
  rfl

theorem labels_at (L : IVec S50000 32) (i : S25x1x2000.Idx) : shapeCast (s := S50000) S25x1x2000 L shapeCasts_S50000_S25x1x2000 i
    = L (ix1 ⟨(i 0).val * 2000 + (i 2).val, by have h0 : (i 0).val < 25 := (i 0).isLt; have h2 : (i 2).val < 2000 := (i 2).isLt; omega⟩) := by
  pointwise

theorem point3 (c : Dev nD) (t : Fin cfg0.N) (y : S1x1x2000.Idx) :
    (k0_pay3 (F := Ideal) (iblk m c 0 t) (iblk m c 1 t) y : EReal)
      = accs (m ((c : Thread nD τ).loc main_arg0)) (m ((c : Thread nD τ).loc main_arg1)) (((cfg0.win 3).blk t).view.emb y) := by
  idx_vars y
  obtain rfl : y0 = 0 := Subsingleton.elim _ _
  obtain rfl : y1 = 0 := Subsingleton.elim _ _
  refine (pay3_at _ _ y2).trans (congrArg₂ rowHit (funext fun k => ?_) ?_)
  · unfold rowOf
    blk_ext [iblk, V, idx t]
  · show V m c main_v0 (((cfg0.win 1).blk t).view.emb (ix3 0 0 y2)) = _
    rw [labels_eq]
    refine (labels_at _ _).trans ?_
    blk_ext [idx t]

theorem final2 (c : Dev nD) : (dats m 0 c).arrAt 2 (cfgs 0).N = confs (m ((c : Thread nD τ).loc main_arg0)) := by
  refine (dats m 0 c).arrAt_eq_of_covers 2 _ (by decide +kernel) fun t _ y => ?_
  blk_simp
  rw [after0_2]; frame_out
  exact point2 m c t y

theorem final3 (c : Dev nD) : (dats m 0 c).arrAt 3 (cfgs 0).N
    = accs (m ((c : Thread nD τ).loc main_arg0)) (m ((c : Thread nD τ).loc main_arg1)) := by
  refine (dats m 0 c).arrAt_eq_of_covers 3 _ (by decide +kernel) fun t _ y => ?_
  blk_simp
  rw [after0_3]; frame_out
  exact point3 m c t y

end Cert.Calib.Kernel1
end
-- ==== Proof.Bins.lean ====
/-
  The calibration error of confidences and hits over given bin edges, as a plain function.
-/
module

public import proofs.«01_k».proof.Proof.RowMath

@[expose] public section

noncomputable section

namespace Cert.Calib

open Idealize.ShloMosaic

/-- Whether a confidence lies in a bin, open below and closed above. -/
def inBin (x lo hi : EReal) : EReal := if lo < x ∧ x ≤ hi then 1 else 0

section
variable {ι : Type} [Fintype ι] (conf acc : ι → EReal) (lo hi : EReal)

/-- How many confidences lie in a bin. -/
def binCount : EReal := ∑ k, inBin (conf k) lo hi

/-- What a bin's sums are divided by: the count, or one where the bin is empty. -/
def binDenom : EReal := if 0 < binCount conf lo hi then binCount conf lo hi else 1

/-- One bin's share of the calibration error. -/
def binTerm : EReal :=
  if 0 < binCount conf lo hi then
    FloatOps.absf (F := Ideal) (φ := .f32)
      ((Ideal.div (∑ k, conf k * inBin (conf k) lo hi) (binDenom conf lo hi) : EReal)
        - (Ideal.div (∑ k, acc k * inBin (conf k) lo hi) (binDenom conf lo hi) : EReal) : EReal)
      * (binCount conf lo hi * ((1 / 50000 : ℝ) : EReal) : EReal)
  else 0

/-- The shares do not depend on how the rows are numbered. -/
theorem binTerm_equiv {κ : Type} [Fintype κ] (e : κ ≃ ι) :
    binTerm (fun k => conf (e k)) (fun k => acc (e k)) lo hi = binTerm conf acc lo hi := by
  have h (f : ι → EReal) : ∑ k, f (e k) = ∑ k, f k := Equiv.sum_comp e f
  unfold binTerm binDenom binCount
  rw [h fun k => inBin (conf k) lo hi, h fun k => conf k * inBin (conf k) lo hi, h fun k => acc k * inBin (conf k) lo hi]

end

/-- Dividing by fifty thousand is multiplying by its inverse. -/
theorem div_n (x : EReal) : Ideal.div x ((50000 : ℝ) : EReal) = x * ((1 / 50000 : ℝ) : EReal) := by
  have h0 : ((50000 : ℝ) : EReal) ≠ 0 := by norm_num
  unfold Ideal.div
  rw [if_neg h0, ← EReal.coe_inv]
  norm_num

theorem inBin_nonneg (x lo hi : EReal) : 0 ≤ inBin x lo hi := by
  unfold inBin; split <;> simp

/-- A bin's share of the rows is positive exactly where its count is. -/
theorem prop_pos (x : EReal) : 0 < x * ((1 / 50000 : ℝ) : EReal) ↔ 0 < x := by
  have hc : (0 : EReal) < ((1 / 50000 : ℝ) : EReal) := by norm_num
  constructor
  · intro h
    by_contra hx
    have hx := not_lt.mp hx
    exact absurd h (not_lt.mpr (EReal.mul_nonpos_iff.mpr (.inr ⟨hx, hc.le⟩)))
  · intro h
    exact EReal.mul_pos h hc

end Cert.Calib

end
-- ==== Proof.EcePayload.lean ====
/-
  What the second call stores, over the extended reals: the fifteen bins' shares added up from zero.
-/
module

public import proofs.«01_k».proof.Proof.Bins
public import proofs.«01_k».proof.Proof.Gen.EceIdeal.Frame

@[expose] public section

set_option maxRecDepth 16384

noncomputable section

namespace Cert.Calib.Kernel3

open Idealize.ShloMosaic
open Cert.EceIdeal Cert.EceIdeal.Gen Cert.Calib

section
variable {F : FTy → Type} [FloatOps F] [Named F]

/-- The bin's mask as floats. -/
def mask (conf : FVec F S25x2000 .f32) (lo hi : F .f32) : FVec F S25x2000 .f32 :=
  sitofp .f32 (extui 32 (andi (cmpf .ogt conf (broadcast S25x2000 lo)) (cmpf .ole conf (broadcast S25x2000 hi))) natLt_1_32)

/-- The sum over an array. -/
def total (x : FVec F S25x2000 .f32) : F .f32 :=
  extractAt ![0, 0, 0] (shapeCast S1x1x1 (multiReduction .add [1, 2] S1 (shapeCast S1x25x2000 x shapeCasts_S25x2000_S1x25x2000) 0x00000000#32
    reduces_S1x25x2000_S1 (.inl rfl) rfl) shapeCasts_S1_S1x1x1) inpos_S1x1x1_p0_0_0

/-- A bin's gap, weighted by its share of the rows. -/
def gap (conf acc : FVec F S25x2000 .f32) (lo hi : F .f32) : F .f32 :=
  let cnt := total (mask conf lo hi)
  let denom := Scalar.select (Scalar.cmpf .ogt cnt (Scalar.ofBits .f32 0x00000000#32)) cnt (Scalar.ofBits .f32 0x3F800000#32)
  Scalar.mulf (Scalar.absf (Scalar.subf (Scalar.divf (total (mulf conf (mask conf lo hi))) denom) (Scalar.divf (total (mulf acc (mask conf lo hi))) denom)))
    (Scalar.mulf cnt (Named.named κ "inv_n" 0x37A7C5AC#32))

/-- The running total after one more bin. -/
def step (conf acc : FVec F S25x2000 .f32) (prev lo hi : F .f32) : F .f32 :=
  Scalar.addf prev (Scalar.select (Scalar.cmpf .ogt (total (mask conf lo hi)) (Scalar.ofBits .f32 0x00000000#32)) (gap conf acc lo hi)
    (Scalar.ofBits .f32 0x00000000#32))

/-- All fifteen bins, the sixteen edges given. -/
def bins (conf acc : FVec F S25x2000 .f32) (e : Fin 16 → F .f32) : F .f32 :=
  step conf acc (step conf acc (step conf acc (step conf acc (step conf acc (step conf acc (step conf acc (step conf acc (step conf acc (step conf acc (step conf acc (step conf acc (step conf acc (step conf acc (step conf acc (Scalar.ofBits .f32 0x00000000#32) (e 0) (e 1)) (e 1) (e 2)) (e 2) (e 3)) (e 3) (e 4)) (e 4) (e 5)) (e 5) (e 6)) (e 6) (e 7)) (e 7) (e 8)) (e 8) (e 9)) (e 9) (e 10)) (e 10) (e 11)) (e 11) (e 12)) (e 12) (e 13)) (e 13) (e 14)) (e 14) (e 15)

/-- The sixteen edges: the least confidence, the inner ones, the greatest. -/
def edges (lo hi : F .f32) (mids : FVec F S14 .f32) : Fin 16 → F .f32 :=
  ![lo, extractAt ![0] (extractStridedSlice S1 ![0] mids slices_S14_o0_S1) inpos_S1_p0,
    k1_pay9 (extractStridedSlice S1 ![1] mids slices_S14_o1_S1),
    k1_pay10 mids, k1_pay11 mids, k1_pay12 mids, k1_pay13 mids, k1_pay14 mids, k1_pay15 mids, k1_pay16 mids, k1_pay17 mids, k1_pay18 mids, k1_pay19 mids, k1_pay20 mids, k1_pay21 mids, hi]

section
variable (v a : FVec F S25x2000 .f32) (p e f g : F .f32)

theorem pay25_eq : k1_pay25 v a f g (k1_pay23 v e f) (k1_pay24 v a e f) = step v a (step v a (Scalar.ofBits .f32 0x00000000#32) e f) f g := rfl
theorem pay34_eq : k1_pay34 v a f g p (k1_pay31 v e f) (k1_pay32 v a e f) (k1_pay33 v e f) = step v a (step v a p e f) f g := rfl
theorem pay43_eq : k1_pay43 v a f g p (k1_pay40 v e f) (k1_pay41 v a e f) (k1_pay42 v e f) = step v a (step v a p e f) f g := rfl
theorem pay52_eq : k1_pay52 v a f g p (k1_pay49 v e f) (k1_pay50 v a e f) (k1_pay51 v e f) = step v a (step v a p e f) f g := rfl
theorem pay61_eq : k1_pay61 v a f g p (k1_pay58 v e f) (k1_pay59 v a e f) (k1_pay60 v e f) = step v a (step v a p e f) f g := rfl
theorem pay29_eq : k1_pay29 a p (k1_pay26 v e f) (k1_pay27 v e f) (k1_pay28 v e f) = step v a p e f := rfl
theorem pay38_eq : k1_pay38 a p (k1_pay35 v e f) (k1_pay36 v e f) (k1_pay37 v e f) = step v a p e f := rfl
theorem pay47_eq : k1_pay47 a p (k1_pay44 v e f) (k1_pay45 v e f) (k1_pay46 v e f) = step v a p e f := rfl
theorem pay56_eq : k1_pay56 a p (k1_pay53 v e f) (k1_pay54 v e f) (k1_pay55 v e f) = step v a p e f := rfl
theorem pay1_eq : k1_pay1 a p (k1_pay62 v f e) (k1_pay63 v f e) (k1_pay64 v f e) = broadcast S8x128 (step v a p e f) := rfl

end

section
variable (lo hi : F .f32) (mids : FVec F S14 .f32)

theorem edges_0 : edges lo hi mids 0 = lo := rfl
theorem edges_1 : edges lo hi mids 1 = extractAt ![0] (extractStridedSlice S1 ![0] mids slices_S14_o0_S1) inpos_S1_p0 := rfl
theorem edges_2 : edges lo hi mids 2 = k1_pay9 (extractStridedSlice S1 ![1] mids slices_S14_o1_S1) := rfl
theorem edges_3 : edges lo hi mids 3 = k1_pay10 mids := rfl
theorem edges_4 : edges lo hi mids 4 = k1_pay11 mids := rfl
theorem edges_5 : edges lo hi mids 5 = k1_pay12 mids := rfl
theorem edges_6 : edges lo hi mids 6 = k1_pay13 mids := rfl
theorem edges_7 : edges lo hi mids 7 = k1_pay14 mids := rfl
theorem edges_8 : edges lo hi mids 8 = k1_pay15 mids := rfl
theorem edges_9 : edges lo hi mids 9 = k1_pay16 mids := rfl
theorem edges_10 : edges lo hi mids 10 = k1_pay17 mids := rfl
theorem edges_11 : edges lo hi mids 11 = k1_pay18 mids := rfl
theorem edges_12 : edges lo hi mids 12 = k1_pay19 mids := rfl
theorem edges_13 : edges lo hi mids 13 = k1_pay20 mids := rfl
theorem edges_14 : edges lo hi mids 14 = k1_pay21 mids := rfl
theorem edges_15 : edges lo hi mids 15 = hi := rfl

end

theorem payload_eq (x0 : Vec F S25x1x2000 .f32) (x1 : Vec F S25x1x2000 .f32) (x2 : Vec F S14 .f32) (x3 : Vec F S14 .i32) (x4 : Vec F S14 .f32) :
    out1_5 x0 x1 x2 x3 x4 = View.canon [⟨r1_2, broadcast S8x128 (bins (k1_pay2 (View.ld x0 r1_0)) (k1_pay3 (View.ld x1 r1_0))
      (edges (k1_pay5 (View.ld x0 r1_0)) (k1_pay6 (View.ld x0 r1_0)) (k1_pay4 (View.ld x0 r1_0) (View.ld x3 r1_1) (View.ld x2 r1_1) (View.ld x4 r1_1))))⟩] := by
  unfold out1_5 k1_pay65 k1_pay66 k1_pay67 k1_pay68 k1_pay7 k1_pay8 bins
  generalize k1_pay4 (View.ld x0 r1_0) (View.ld x3 r1_1) (View.ld x2 r1_1) (View.ld x4 r1_1) = mids
  generalize k1_pay2 (View.ld x0 r1_0) = v
  generalize k1_pay3 (View.ld x1 r1_0) = a
  generalize k1_pay5 (View.ld x0 r1_0) = lo
  generalize k1_pay6 (View.ld x0 r1_0) = hi
  simp only [pay25_eq, pay29_eq, pay34_eq, pay38_eq, pay43_eq, pay47_eq, pay52_eq, pay56_eq, pay61_eq, pay1_eq,
    edges_0, edges_1, edges_2, edges_3, edges_4, edges_5, edges_6, edges_7, edges_8, edges_9, edges_10, edges_11, edges_12, edges_13, edges_14, edges_15]

end

theorem named_eq : (Named.named (F := Ideal) (φ := .f32) κ "inv_n" 0x37A7C5AC#32 : EReal) = ((1 / 50000 : ℝ) : EReal) := by
  rfl

theorem bit_at (x lo hi : EReal) :
    (FloatOps.sitofp (F := Ideal) .f32 (BitVec.setWidth 32 (IntOp.andi (BitVec.ofBool (decide (lo < x))) (BitVec.ofBool (decide (x ≤ hi))))) : EReal)
      = inBin x lo hi := by
  show (((BitVec.setWidth 32 (IntOp.andi (BitVec.ofBool (decide (lo < x))) (BitVec.ofBool (decide (x ≤ hi))))).toInt : ℝ) : EReal) = _
  unfold inBin
  by_cases h1 : lo < x <;> by_cases h2 : x ≤ hi <;> simp [IntOp.andi, h1, h2]

theorem mask_at (conf : FVec Ideal S25x2000 .f32) (lo hi : EReal) (i : Fin 25) (j : Fin 2000) :
    (mask (F := Ideal) conf lo hi (ix2 i j) : EReal) = inBin (conf (ix2 i j)) lo hi := by
  refine Eq.trans ?_ (bit_at _ _ _)
  pointwise [mask]

theorem total_at (x : FVec Ideal S25x2000 .f32) : (total (F := Ideal) x : EReal) = ∑ p : Fin 25 × Fin 2000, (x (ix2 p.1 p.2) : EReal) := by
  rw [Fintype.sum_prod_type]
  pointwise [total]

theorem count_at (conf : FVec Ideal S25x2000 .f32) (lo hi : EReal) :
    (total (F := Ideal) (mask conf lo hi) : EReal) = binCount (fun p : Fin 25 × Fin 2000 => (conf (ix2 p.1 p.2) : EReal)) lo hi := by
  rw [total_at]
  exact Finset.sum_congr rfl fun p _ => mask_at _ _ _ _ _

theorem weighted_at (conf x : FVec Ideal S25x2000 .f32) (lo hi : EReal) :
    (total (F := Ideal) (mulf x (mask conf lo hi)) : EReal)
      = ∑ p : Fin 25 × Fin 2000, (x (ix2 p.1 p.2) : EReal) * inBin (conf (ix2 p.1 p.2)) lo hi := by
  rw [total_at]
  refine Finset.sum_congr rfl fun p _ => ?_
  rw [← mask_at]; rfl

theorem step_at (conf acc : FVec Ideal S25x2000 .f32) (prev lo hi : EReal) :
    (step (F := Ideal) conf acc prev lo hi : EReal)
      = prev + binTerm (fun p : Fin 25 × Fin 2000 => (conf (ix2 p.1 p.2) : EReal)) (fun p => (acc (ix2 p.1 p.2) : EReal)) lo hi := by
  unfold step gap binTerm binDenom
  rw [count_at, weighted_at, weighted_at, named_eq]
  generalize binCount (fun p : Fin 25 × Fin 2000 => (conf (ix2 p.1 p.2) : EReal)) lo hi = n
  pointwise
  rfl

end Cert.Calib.Kernel3

end
-- ==== Proof.Sorted.lean ====
/-
  Order statistics of a finite list of extended reals: what the least, the greatest and the next entry above a given
  rank are, once the list is known in ascending order.
-/
module

public import proofs.«01_k».proof.Proof.RowMath
public import Idealize.ShloMosaic.Lib.StableHlo.Predicate

@[expose] public section

noncomputable section

namespace Cert.Calib

open Idealize.ShloMosaic

/-- `s` is the list `v` in ascending order. -/
structure Ascending {n : ℕ} (v s : Fin n → EReal) : Prop where
  mono : Monotone s
  perm : ∃ σ : Fin n → Fin n, σ.Bijective ∧ ∀ i, s i = v (σ i)

theorem fold_min_spec {ι : Type} [Fintype ι] [DecidableEq ι] (b : EReal) (f : ι → EReal) :
    ((Finset.univ.fold min b f = b ∨ ∃ k, Finset.univ.fold min b f = f k) ∧ Finset.univ.fold min b f ≤ b
      ∧ ∀ k, Finset.univ.fold min b f ≤ f k) := by
  have h := fold_least (min : EReal → EReal → EReal) (fun a b => a ≤ b) (fun _ => le_rfl) (fun _ _ _ h g => h.trans g)
    (fun a b => ⟨min_choice a b, min_le_left a b, min_le_right a b⟩) b f Finset.univ
  simpa using h

theorem fold_min_eq {ι : Type} [Fintype ι] [DecidableEq ι] (f : ι → EReal) (y : EReal) (hy : ∃ k, f k = y)
    (hf : ∀ k, y ≤ f k) : Finset.univ.fold min ⊤ f = y := by
  obtain ⟨h1, -, h3⟩ := fold_min_spec ⊤ f
  obtain ⟨k, rfl⟩ := hy
  refine le_antisymm (h3 k) ?_
  rcases h1 with h | ⟨j, h⟩
  · rw [h]; exact le_top
  · rw [h]; exact hf j

theorem fold_max_eq {ι : Type} [Fintype ι] [DecidableEq ι] (f : ι → EReal) (y : EReal) (hy : ∃ k, f k = y)
    (hf : ∀ k, f k ≤ y) : Finset.univ.fold max ⊥ f = y := by
  obtain ⟨h1, -, h3⟩ := fold_max_spec ⊥ f
  obtain ⟨k, rfl⟩ := hy
  refine le_antisymm ?_ (h3 k)
  rcases h1 with h | ⟨j, h⟩
  · rw [h]; exact bot_le
  · rw [h]; exact hf j

namespace Ascending

variable {n : ℕ} {v s : Fin n → EReal} (h : Ascending v s) {ι : Type} [Fintype ι] [DecidableEq ι] (e : ι ≃ Fin n)
include h

/-- Every entry of the list stands somewhere in the ordered one. -/
theorem place (k : Fin n) : ∃ i, s i = v k := by
  obtain ⟨σ, hσ, hs⟩ := h.perm
  obtain ⟨i, rfl⟩ := hσ.2 k
  exact ⟨i, hs i⟩

theorem source (i : Fin n) : ∃ k, v (e k) = s i := by
  obtain ⟨σ, -, hs⟩ := h.perm
  exact ⟨e.symm (σ i), by simp [hs]⟩

theorem least (hn : 0 < n) : Finset.univ.fold min ⊤ (fun k => v (e k)) = s ⟨0, hn⟩ := by
  refine fold_min_eq _ _ (h.source e _) fun k => ?_
  obtain ⟨i, hi⟩ := h.place (e k)
  rw [← hi]; exact h.mono (Fin.mk_le_of_le_val (Nat.zero_le _))

theorem greatest (p : ℕ) (hp : p < n) (hl : p + 1 = n) : Finset.univ.fold max ⊥ (fun k => v (e k)) = s ⟨p, hp⟩ := by
  refine fold_max_eq _ _ (h.source e _) fun k => ?_
  obtain ⟨i, hi⟩ := h.place (e k)
  rw [← hi]; exact h.mono (Fin.le_def.mpr (by have := i.isLt; simp only; omega))

omit [DecidableEq ι] in
/-- As many entries of the list lie at or below a value as of the ordered list. -/
theorem count_eq (x : EReal) : (Finset.univ.filter fun k => v (e k) ≤ x).card = (Finset.univ.filter fun i => s i ≤ x).card := by
  obtain ⟨σ, hσ, hs⟩ := h.perm
  symm
  refine Finset.card_bij (fun i _ => e.symm (σ i)) ?_ ?_ ?_
  · intro i hi
    simpa [hs] using hi
  · intro i _ j _ hij
    exact hσ.1 (e.symm.injective hij)
  · intro k hk
    obtain ⟨i, hi⟩ := hσ.2 (e k)
    exact ⟨i, by simpa [hs, hi] using hk, by simp [hi]⟩

/-- The entry one rank above `p`: the entry at `p` again if enough of the list lies at or below it, else the least of
    the list above it. -/
theorem next (two : EReal) (hv : ∀ k, v k ≤ two) (p : ℕ) (hp : p + 1 < n) :
    (if p + 2 ≤ (Finset.univ.filter fun k => v (e k) ≤ s ⟨p, by omega⟩).card then s ⟨p, by omega⟩
      else Finset.univ.fold min ⊤ fun k => if s ⟨p, by omega⟩ < v (e k) then v (e k) else two) = s ⟨p + 1, hp⟩ := by
  rw [h.count_eq e]
  have hstep : s ⟨p, by omega⟩ ≤ s ⟨p + 1, hp⟩ := h.mono (Fin.le_def.mpr (by simp))
  split
  · rename_i hc
    refine le_antisymm hstep ?_
    by_contra hlt
    have hlt := not_le.mp hlt
    have hsub : (Finset.univ.filter fun i => s i ≤ s ⟨p, by omega⟩) ⊆ Finset.Iic (⟨p, by omega⟩ : Fin n) := by
      intro i hi
      simp only [Finset.mem_filter, Finset.mem_univ, true_and] at hi
      rw [Finset.mem_Iic]
      by_contra hip
      have : (⟨p + 1, hp⟩ : Fin n) ≤ i := Fin.le_def.mpr (by have := Fin.lt_def.mp (not_le.mp hip); simpa using this)
      exact absurd (hlt.trans_le (h.mono this)) (not_lt.mpr hi)
    have := Finset.card_le_card hsub
    rw [Fin.card_Iic] at this
    simp only at this
    omega
  · rename_i hc
    have hlt : s ⟨p, by omega⟩ < s ⟨p + 1, hp⟩ := by
      by_contra hle
      have hle := not_lt.mp hle
      have hsub : Finset.Iic (⟨p + 1, hp⟩ : Fin n) ⊆ (Finset.univ.filter fun i => s i ≤ s ⟨p, by omega⟩) := by
        intro i hi
        simp only [Finset.mem_filter, Finset.mem_univ, true_and]
        exact (h.mono (Finset.mem_Iic.mp hi)).trans hle
      have := Finset.card_le_card hsub
      rw [Fin.card_Iic] at this
      simp only at this
      omega
    refine fold_min_eq _ _ ?_ fun k => ?_
    · obtain ⟨k, hk⟩ := h.source e ⟨p + 1, hp⟩
      exact ⟨k, by rw [hk, if_pos hlt]⟩
    · obtain ⟨i, hi⟩ := h.place (e k)
      split
      · rename_i hk
        rw [← hi] at hk ⊢
        refine h.mono ?_
        by_contra hip
        have : i ≤ ⟨p, by omega⟩ := Fin.le_def.mpr (by have := Fin.lt_def.mp (not_le.mp hip); simp only at this ⊢; omega)
        exact absurd (h.mono this) (not_le.mpr hk)
      · obtain ⟨k', hk'⟩ := h.source e ⟨p + 1, hp⟩
        rw [← hk']; exact hv _

end Ascending

/-- A 32-bit sum of widened bits is the number of set ones, while that fits. -/
theorem fold_bits {ι : Type} [Fintype ι] [DecidableEq ι] (P : ι → Prop) [DecidablePred P] (hn : Fintype.card ι < 2 ^ 31) :
    (Finset.univ.fold IntOp.addi (0#32) fun k => BitVec.setWidth 32 (BitVec.ofBool (decide (P k))))
      = BitVec.ofNat 32 (Finset.univ.filter P).card := by
  have hsum : ∑ k, (BitVec.setWidth 32 (BitVec.ofBool (decide (P k)))).toNat = (Finset.univ.filter P).card := by
    rw [Finset.card_filter]
    refine Finset.sum_congr rfl fun k _ => ?_
    by_cases hk : P k <;> simp [hk]
  have hle : (Finset.univ.filter P).card ≤ Fintype.card ι := Finset.card_le_univ _
  apply BitVec.eq_of_toNat_eq
  rw [StableHlo.Predicate.toNat_fold_addi _ _ (by rw [hsum]; omega), hsum, BitVec.toNat_ofNat, Nat.mod_eq_of_lt (by omega)]

/-- Signed comparison of two small numbers held in 32 bits. -/
theorem cmpi_sge_ofNat (a b : ℕ) (ha : a < 2 ^ 31) (hb : b < 2 ^ 31) :
    IntOp.cmpi .sge (BitVec.ofNat 32 a) (BitVec.ofNat 32 b) = BitVec.ofBool (decide (b ≤ a)) := by
  have ea : (BitVec.ofNat 32 a).toInt = a := by rw [BitVec.toInt_eq_toNat_of_lt] <;> simp <;> omega
  have eb : (BitVec.ofNat 32 b).toInt = b := by rw [BitVec.toInt_eq_toNat_of_lt] <;> simp <;> omega
  simp [IntOp.cmpi, BitVec.sle, ea, eb]

end Cert.Calib

end
-- ==== Proof.Edges.lean ====
/-
  The sixteen bin edges: the ascending confidences read at evenly spaced positions, with linear interpolation between
  two neighbours.
-/
module

public import proofs.«01_k».proof.Proof.Sorted
public import proofs.«01_k».proof.Proof.Bins
public import Idealize.ShloMosaic.Lib.SortFacts
public import Idealize.ShloMosaic.Lib.Routing.OpsSet

@[expose] public section

noncomputable section

namespace Cert.Calib

open Idealize.ShloMosaic

/-- The rank at or below each edge's position. -/
def rank : Fin 16 → Fin 49999 :=
  ![0, 3333, 6666, 10000, 13333, 16666, 20000, 23333, 26666, 30000, 33333, 36666, 40000, 43333, 46666, 49998]

/-- How far each edge lies between its two neighbours, as the words of the printed constants. -/
def fracWord : Fin 16 → BitVec 32 :=
  ![0x00000000#32, 0x3EAAC000#32, 0x3F2AC000#32, 0x00000000#32, 0x3EAB0000#32, 0x3F2B0000#32, 0x00000000#32, 0x3EAB0000#32,
    0x3F2B0000#32, 0x3B000000#32, 0x3EAC0000#32, 0x3F2B0000#32, 0x00000000#32, 0x3EAC0000#32, 0x3F2B0000#32, 0x40000000#32]

/-- The lower and the upper neighbour of an edge. -/
def below (k : Fin 16) : Fin 50000 := ⟨(rank k).val, by have := (rank k).isLt; omega⟩
def above (k : Fin 16) : Fin 50000 := ⟨(rank k).val + 1, by have := (rank k).isLt; omega⟩

/-- An edge between its neighbours. -/
def between (s : Fin 50000 → EReal) (k : Fin 16) : EReal :=
  s (below k) + Ideal.ofBits .f32 (fracWord k) * (s (above k) - s (below k))

/-- The edges of an ascending list; the last position lies past the list, so its edge is the greatest entry. -/
def edgeOf (s : Fin 50000 → EReal) (k : Fin 16) : EReal := if k = 15 then s ⟨49999, by omega⟩ else between s k

theorem edgeOf_first (s : Fin 50000 → EReal) : edgeOf s 0 = s ⟨0, by omega⟩ := by
  have h0 : Ideal.ofBits .f32 (fracWord 0) = (0 : EReal) := by
    show Ideal.ofBits .f32 0x00000000#32 = _
    simp [Ideal.ofBits, Ideal.ieee]
  rw [edgeOf, if_neg (by decide), between, h0, zero_mul, add_zero]
  rfl

theorem edgeOf_last (s : Fin 50000 → EReal) : edgeOf s 15 = s ⟨49999, by omega⟩ := if_pos rfl

/-- The calibration error of `conf` and `acc` over the edges of `s`. -/
def calibration {ι : Type} [Fintype ι] (conf acc : ι → EReal) (s : Fin 50000 → EReal) : EReal :=
  ∑ k : Fin 15, binTerm conf acc (edgeOf s k.castSucc) (edgeOf s k.succ)

/-- A stable sort by "less than" puts a list in ascending order. -/
theorem ascending_sort {n : ℕ} (cmp : EReal → EReal → BitVec 1) (hc : ∀ a b, cmp a b = BitVec.ofBool (decide (a < b)))
    (x : (⟨1, ![n]⟩ : Shape).Idx → EReal) :
    Ascending (fun r => x (ix1 r)) (fun r => Host.sort ⟨1, ![n]⟩ 0 cmp x (ix1 r)) := by
  have hof : ∀ r : Fin n, (Shape.Idx.ofFin r : (⟨1, ![n]⟩ : Shape).Idx) = ix1 r := fun r => by
    funext a
    match a with
    | ⟨0, _⟩ => rfl
  have hlt : ∀ a b : EReal, (cmp a b == 1#1) = decide (a < b) := fun a b => by
    rw [hc]; by_cases h : a < b <;> simp [h]
  simp only [Host.sort_rank1, hof, hlt]
  refine ⟨fun i j hij => ?_, _, ⟨sortedFrom_injective _, sortedFrom_surjective _⟩, fun i => rfl⟩
  rcases hij.eq_or_lt with rfl | hij
  · exact le_rfl
  have h := sortedFrom_noInversion (fun k k' : Fin n => decide (x (ix1 k) < x (ix1 k'))) (fun k k' => decide (x (ix1 k) < x (ix1 k')))
    (fun a b hab => by simpa using (of_decide_eq_true hab).le) (fun a b hab => hab)
    (fun a b c hab hbc => by simp only [decide_eq_false_iff_not, not_lt] at hab hbc ⊢; exact hbc.trans hab) i j hij
  simpa using h

end Cert.Calib

end
-- ==== Proof.EceMids.lean ====
/-
  The second call's value over the extended reals: the calibration error of the block's confidences and hits over the
  edges of the ascending confidences, given the lower neighbour of each inner edge, its rank and its place between the
  neighbours.
-/
module

public import proofs.«01_k».proof.Proof.EcePayload
public import proofs.«01_k».proof.Proof.Edges

@[expose] public section

set_option maxRecDepth 16384

noncomputable section

namespace Cert.Calib.Kernel3

open Idealize.ShloMosaic
open Cert.EceIdeal Cert.EceIdeal.Gen Cert.Calib

/-- A row of a block as a row of the problem. -/
def rowAt : Fin 25 × Fin 2000 ≃ Fin 50000 := finProdFinEquiv.trans (finCongr (by norm_num))

theorem rowAt_val (p : Fin 25 × Fin 2000) : (rowAt p).val = p.1.val * 2000 + p.2.val := by
  show p.2.val + 2000 * p.1.val = _
  omega

/-- The place of an inner edge among all sixteen. -/
abbrev inner (t : Fin 14) : Fin 16 := t.succ.castSucc

theorem sum_15 (g : Fin 15 → EReal) : ∑ k, g k
    = 0 + g 0 + g 1 + g 2 + g 3 + g 4 + g 5 + g 6 + g 7 + g 8 + g 9 + g 10 + g 11 + g 12 + g 13 + g 14 := by
  simp only [Fin.sum_univ_castSucc, Fin.sum_univ_zero]
  rfl

theorem bins_at (conf acc : FVec Ideal S25x2000 .f32) (e : Fin 16 → EReal) :
    (bins (F := Ideal) conf acc e : EReal) = ∑ k : Fin 15,
      binTerm (fun p : Fin 25 × Fin 2000 => (conf (ix2 p.1 p.2) : EReal)) (fun p => (acc (ix2 p.1 p.2) : EReal)) (e k.castSucc) (e k.succ) := by
  have h0 : (Scalar.ofBits (F := Ideal) .f32 0x00000000#32 : EReal) = 0 := by
    show (Ideal.ofBits .f32 0x00000000#32 : EReal) = 0
    simp [Ideal.ofBits, Ideal.ieee]
  refine Eq.trans ?_ (sum_15 _).symm
  unfold bins
  rw [h0]
  simp only [step_at]
  rfl

theorem mid_at (lo hi : EReal) (mids : FVec Ideal S14 .f32) (t : Fin 14) :
    (edges (F := Ideal) lo hi mids (inner t) : EReal) = mids (ix1 t) := by
  fin_cases t <;>
  · refine congrArg mids (funext fun a => Fin.ext ?_)
    match a with
    | ⟨0, _⟩ => rfl

theorem two : (Ideal.ofBits .f32 1073741824#32 : EReal) = 2 := by
  have h : (Ideal.ofBits .f32 1073741824#32 : EReal) = ((2 : ℝ) : EReal) := by
    simp [Ideal.ofBits, Ideal.ieee]
    rw [← EReal.coe_mul]; norm_num
  rw [h]; rfl

theorem top_word : (Ideal.ofBits .f32 2139095040#32 : EReal) = ⊤ := by simp [Ideal.ofBits, Ideal.ieee]

theorem bot_word : (Ideal.ofBits .f32 4286578688#32 : EReal) = ⊥ := by simp [Ideal.ofBits, Ideal.ieee]

theorem pay2_at (x : FVec Ideal S25x1x2000 .f32) (i : Fin 25) (j : Fin 2000) : (k1_pay2 (F := Ideal) x (ix2 i j) : EReal) = x (ix3 i 0 j) := by
  pointwise [k1_pay2]

theorem pay3_at (x : FVec Ideal S25x1x2000 .f32) (i : Fin 25) (j : Fin 2000) : (k1_pay3 (F := Ideal) x (ix2 i j) : EReal) = x (ix3 i 0 j) := by
  pointwise [k1_pay3]

theorem pay5_at (x : FVec Ideal S25x1x2000 .f32) :
    (k1_pay5 (F := Ideal) x : EReal) = Finset.univ.fold min ⊤ fun p : Fin 25 × Fin 2000 => (x (ix3 p.1 0 p.2) : EReal) := by
  rw [← top_word]
  pointwise [k1_pay5, k1_pay2]

theorem pay6_at (x : FVec Ideal S25x1x2000 .f32) :
    (k1_pay6 (F := Ideal) x : EReal) = Finset.univ.fold max ⊥ fun p : Fin 25 × Fin 2000 => (x (ix3 p.1 0 p.2) : EReal) := by
  rw [← bot_word]
  pointwise [k1_pay6, k1_pay2]

theorem pay4_at (x : FVec Ideal S25x1x2000 .f32) (a : IVec S14 32) (b d : FVec Ideal S14 .f32) (t : Fin 14) :
    (k1_pay4 (F := Ideal) x a b d (ix1 t) : EReal) = b (ix1 t) + d (ix1 t)
      * (Scalar.select (IntOp.cmpi .sge (Finset.univ.fold IntOp.addi 0#32 fun p : Fin 25 × Fin 2000 =>
            BitVec.setWidth 32 (BitVec.ofBool (decide ((x (ix3 p.1 0 p.2) : EReal) ≤ b (ix1 t))))) (IntOp.addi (a (ix1 t)) 2#32))
          (b (ix1 t))
          (Finset.univ.fold min (Ideal.ofBits .f32 2139095040#32) fun p : Fin 25 × Fin 2000 =>
            if (b (ix1 t) : EReal) < x (ix3 p.1 0 p.2) then (x (ix3 p.1 0 p.2) : EReal) else Ideal.ofBits .f32 1073741824#32) - b (ix1 t) : EReal) := by
  pointwise [k1_pay4, k1_pay2]

end Cert.Calib.Kernel3
end
-- ==== Proof.EceBlock.lean ====
/-
  The second call's block is the calibration error over the edges of the ascending confidences.
-/
module

public import proofs.«01_k».proof.Proof.EceMids

@[expose] public section

set_option maxRecDepth 16384

noncomputable section

namespace Cert.Calib.Kernel3

open Idealize.ShloMosaic
open Cert.EceIdeal Cert.EceIdeal.Gen Cert.Calib

/-- What the block and its operands hold, in terms of the rows' confidences, hits and ascending confidences. -/
structure Holds (x0 x1 : FVec Ideal S25x1x2000 .f32) (x2 : FVec Ideal S14 .f32) (x3 : IVec S14 32) (x4 : FVec Ideal S14 .f32)
    (conf acc s : Fin 50000 → EReal) : Prop where
  confs : ∀ p : Fin 25 × Fin 2000, (x0 (ix3 p.1 0 p.2) : EReal) = conf (rowAt p)
  hits : ∀ p : Fin 25 × Fin 2000, (x1 (ix3 p.1 0 p.2) : EReal) = acc (rowAt p)
  lows : ∀ t : Fin 14, (x2 (ix1 t) : EReal) = s (below (inner t))
  ranks : ∀ t : Fin 14, x3 (ix1 t) = BitVec.ofNat 32 (below (inner t)).val
  fracs : ∀ t : Fin 14, (x4 (ix1 t) : EReal) = Ideal.ofBits .f32 (fracWord (inner t))
  asc : Ascending conf s
  small : ∀ r, conf r ≤ 2

section
variable {x0 x1 : FVec Ideal S25x1x2000 .f32} {x2 : FVec Ideal S14 .f32} {x3 : IVec S14 32} {x4 : FVec Ideal S14 .f32}
  {conf acc s : Fin 50000 → EReal} (h : Holds x0 x1 x2 x3 x4 conf acc s)
include h

/-- The entry after the one at an inner edge's rank, as the call finds it: the same value again where enough entries lie
    at or below it, else the least entry above it. -/
theorem next_at (t : Fin 14) :
    (Scalar.select (IntOp.cmpi .sge (Finset.univ.fold IntOp.addi 0#32 fun p : Fin 25 × Fin 2000 =>
            BitVec.setWidth 32 (BitVec.ofBool (decide ((x0 (ix3 p.1 0 p.2) : EReal) ≤ x2 (ix1 t))))) (IntOp.addi (x3 (ix1 t)) 2#32))
          (x2 (ix1 t))
          (Finset.univ.fold min (Ideal.ofBits .f32 2139095040#32) fun p : Fin 25 × Fin 2000 =>
            if (x2 (ix1 t) : EReal) < x0 (ix3 p.1 0 p.2) then (x0 (ix3 p.1 0 p.2) : EReal) else Ideal.ofBits .f32 1073741824#32) : EReal)
      = s (above (inner t)) := by
  have hk := (rank (inner t)).isLt
  have hb : below (inner t) = ⟨(rank (inner t)).val, by omega⟩ := rfl
  have ha : above (inner t) = ⟨(rank (inner t)).val + 1, by omega⟩ := rfl
  rw [ha, ← h.asc.next rowAt 2 h.small (rank (inner t)).val (by omega), h.lows, h.ranks, two, top_word, hb]
  simp only [h.confs]
  rw [fold_bits _ (by simp), show IntOp.addi (BitVec.ofNat 32 (rank (inner t)).val) 2#32 = BitVec.ofNat 32 ((rank (inner t)).val + 2) from
    (BitVec.ofNat_add _ _).symm, cmpi_sge_ofNat _ _ _ (by omega)]
  · by_cases hc : (rank (inner t)).val + 2 ≤ (Finset.univ.filter fun p => conf (rowAt p) ≤ s ⟨(rank (inner t)).val, by omega⟩).card
    · rw [if_pos hc, decide_eq_true hc]; exact if_pos rfl
    · rw [if_neg hc, decide_eq_false hc]; exact if_neg (by decide)
  · exact lt_of_le_of_lt (Finset.card_le_univ _) (by simp)

theorem mid_eq (t : Fin 14) : (k1_pay4 (F := Ideal) x0 x3 x2 x4 (ix1 t) : EReal) = between s (inner t) := by
  rw [pay4_at, next_at h t, h.lows, h.fracs]
  rfl

theorem low_eq : (k1_pay5 (F := Ideal) x0 : EReal) = s ⟨0, by omega⟩ := by
  rw [pay5_at]
  simp only [h.confs]
  exact h.asc.least rowAt _

theorem high_eq : (k1_pay6 (F := Ideal) x0 : EReal) = s ⟨49999, by omega⟩ := by
  rw [pay6_at]
  simp only [h.confs]
  exact h.asc.greatest rowAt _ _ (by norm_num)

theorem edge_eq (k : Fin 16) :
    (edges (F := Ideal) (k1_pay5 x0) (k1_pay6 x0) (k1_pay4 x0 x3 x2 x4) k : EReal) = edgeOf s k := by
  by_cases h0 : k = 0
  · subst h0; rw [edgeOf_first, edges_0]; exact low_eq h
  by_cases h15 : k = 15
  · subst h15; rw [edgeOf_last, edges_15]; exact high_eq h
  obtain ⟨t, rfl⟩ : ∃ t : Fin 14, k = inner t := by
    have h0 : k.val ≠ 0 := fun g => h0 (Fin.ext g)
    have h15 : k.val ≠ 15 := fun g => h15 (Fin.ext g)
    exact ⟨⟨k.val - 1, by omega⟩, Fin.ext (by simp; omega)⟩
  rw [edgeOf, if_neg h15]
  exact (mid_at _ _ _ t).trans (mid_eq h t)

theorem bins_eq :
    (bins (F := Ideal) (k1_pay2 x0) (k1_pay3 x1) (edges (k1_pay5 x0) (k1_pay6 x0) (k1_pay4 x0 x3 x2 x4)) : EReal) = calibration conf acc s := by
  refine (bins_at _ _ _).trans (Finset.sum_congr rfl fun k _ => ?_)
  rw [edge_eq h, edge_eq h, ← binTerm_equiv conf acc _ _ rowAt]
  congr 1
  · funext p; rw [pay2_at, h.confs]
  · funext p; rw [pay3_at, h.hits]

end

end Cert.Calib.Kernel3
end
-- ==== Proof.EceRegions.lean ====
/-
  What each of the kernel's two calls leaves in its results, from what it finds in its operands.
-/
module

public import proofs.«01_k».proof.Proof.RowValue
public import proofs.«01_k».proof.Proof.EceBlock
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Calib.Kernel3

open Cert.EceIdeal Cert.EceIdeal.Gen Cert.Calib

/-! ## The first call -/

theorem conf_at (x : FVec Ideal S2000x1000 .f32) (r : Fin 2000) :
    (k0_pay2 (F := Ideal) x (ix3 0 0 r) : EReal) = rowConf fun k => x (ix2 r k) := by
  pointwise [k0_pay2, k0_pay1, rowConf, rowMax]

theorem word_at (a b : BitVec 32) :
    (FloatOps.sitofp (F := Ideal) .f32 (BitVec.setWidth 32 (IntOp.cmpi .eq a b)) : EReal) = if a = b then 1 else 0 := by
  show (((BitVec.setWidth 32 (IntOp.cmpi .eq a b)).toInt : ℝ) : EReal) = _
  by_cases h : a = b
  · simp [IntOp.cmpi, h]
  · have e : (a == b) = false := by simp [h]
    simp [IntOp.cmpi, h, e]

theorem hit_at (x : FVec Ideal S2000x1000 .f32) (l : IVec S1x1x2000 32) (r : Fin 2000) :
    (k0_pay3 (F := Ideal) x l (ix3 0 0 r) : EReal) = rowHit (fun k => x (ix2 r k)) (l (ix3 0 0 r)) := by
  refine Eq.trans ?_ (word_at _ _)
  pointwise [k0_pay3, k0_pay1, rowArg, rowMax]

variable (V : (c : Dev nD) → (b : Ref sig .tc) → Buf (Elt Ideal) ((c : Thread nD τ).loc b))

theorem idx0 : ∀ t : Fin cfg0.N, win0_0.index t = ![t.val, 0] ∧ win0_1.index t = ![t.val, 0, 0]
    ∧ win0_2.index t = ![t.val, 0, 0] ∧ win0_3.index t = ![t.val, 0, 0] :=
  (by decide +kernel : ∀ t : Fin grid0.N, _)

theorem point2 (c : Dev nD) (t : Fin cfg0.N) (y : S1x1x2000.Idx) :
    (k0_pay2 (F := Ideal) (iblk0 V c 0 t) y : EReal) = confs (V c main_arg0) (((cfg0.win 2).blk t).view.emb y) := by
  idx_vars y
  obtain rfl : y0 = 0 := Subsingleton.elim _ _
  obtain rfl : y1 = 0 := Subsingleton.elim _ _
  refine (conf_at _ y2).trans (congrArg rowConf (funext fun k => ?_))
  unfold rowOf
  blk_ext [iblk0, idx0 t]

theorem labels_at (L : IVec S50000 32) (i : S25x1x2000.Idx) : shapeCast (s := S50000) S25x1x2000 L shapeCasts_S50000_S25x1x2000 i
    = L (ix1 ⟨(i 0).val * 2000 + (i 2).val, by have h0 : (i 0).val < 25 := (i 0).isLt; have h2 : (i 2).val < 2000 := (i 2).isLt; omega⟩) := by
  pointwise

theorem point3 (c : Dev nD) (t : Fin cfg0.N) (y : S1x1x2000.Idx) (L : IVec S50000 32)
    (hL : V c main_v0 = shapeCast (s := S50000) S25x1x2000 L shapeCasts_S50000_S25x1x2000) :
    (k0_pay3 (F := Ideal) (iblk0 V c 0 t) (iblk0 V c 1 t) y : EReal) = accs (V c main_arg0) L (((cfg0.win 3).blk t).view.emb y) := by
  idx_vars y
  obtain rfl : y0 = 0 := Subsingleton.elim _ _
  obtain rfl : y1 = 0 := Subsingleton.elim _ _
  refine (hit_at _ _ y2).trans (congrArg₂ rowHit (funext fun k => ?_) ?_)
  · unfold rowOf
    blk_ext [iblk0, idx0 t]
  · show V c main_v0 (((cfg0.win 1).blk t).view.emb (ix3 0 0 y2)) = _
    rw [hL]
    refine (labels_at _ _).trans ?_
    blk_ext [idx0 t]

theorem final2 (c : Dev nD) : (dat0 V c).arrAt 2 cfg0.N = confs (V c main_arg0) := by
  refine (dat0 V c).arrAt_eq_of_covers 2 _ (by decide +kernel) fun t _ y => ?_
  blk_simp
  rw [after0_2]; frame_out
  exact point2 V c t y

theorem final3 (c : Dev nD) (L : IVec S50000 32)
    (hL : V c main_v0 = shapeCast (s := S50000) S25x1x2000 L shapeCasts_S50000_S25x1x2000) :
    (dat0 V c).arrAt 3 cfg0.N = accs (V c main_arg0) L := by
  refine (dat0 V c).arrAt_eq_of_covers 3 _ (by decide +kernel) fun t _ y => ?_
  blk_simp
  rw [after0_3]; frame_out
  exact point3 V c t y L hL

/-! ## The second call -/

theorem idx1 : ∀ t : Fin cfg1.N, win1_0.index t = ![0, 0, 0] ∧ win1_1.index t = ![0, 0, 0]
    ∧ win1_2.index t = ![0] ∧ win1_3.index t = ![0] ∧ win1_4.index t = ![0] ∧ win1_5.index t = ![0, 0] :=
  (by decide +kernel : ∀ t : Fin grid1.N, _)

theorem block0 (c : Dev nD) (t : Fin cfg1.N) (y : S25x1x2000.Idx) : iblk1 V c 0 t y = V c main_v1_0 y := by
  idx_vars y
  blk_ext [iblk1, idx1 t]

theorem block1 (c : Dev nD) (t : Fin cfg1.N) (y : S25x1x2000.Idx) : iblk1 V c 1 t y = V c main_v1_1 y := by
  idx_vars y
  blk_ext [iblk1, idx1 t]

theorem block2 (c : Dev nD) (t : Fin cfg1.N) (y : S14.Idx) : iblk1 V c 2 t y = V c main_v8 y := by
  idx_vars y
  blk_ext [iblk1, idx1 t]

theorem block3 (c : Dev nD) (t : Fin cfg1.N) (y : S14.Idx) : iblk1 V c 3 t y = V c main_c y := by
  idx_vars y
  blk_ext [iblk1, idx1 t]

theorem block4 (c : Dev nD) (t : Fin cfg1.N) (y : S14.Idx) : iblk1 V c 4 t y = V c main_cst y := by
  idx_vars y
  blk_ext [iblk1, idx1 t]

theorem bins_blocks {x0 x1 y0 y1} {x2 x3 x4 y2 y3 y4} {conf acc s : Fin 50000 → EReal} (e0 : y0 = x0) (e1 : y1 = x1)
    (e2 : y2 = x2) (e3 : y3 = x3) (e4 : y4 = x4) (h : Holds x0 x1 x2 x3 x4 conf acc s) :
    (bins (F := Ideal) (k1_pay2 y0) (k1_pay3 y1) (edges (k1_pay5 y0) (k1_pay6 y0) (k1_pay4 y0 y3 y2 y4)) : EReal)
      = calibration conf acc s := by
  subst e0 e1 e2 e3 e4
  exact bins_eq h

theorem final5 (c : Dev nD) (conf acc s : Fin 50000 → EReal)
    (h : Holds (V c main_v1_0) (V c main_v1_1) (V c main_v8) (V c main_c) (V c main_cst) conf acc s) :
    (dat1 V c).arrAt 5 cfg1.N = fun _ => calibration conf acc s := by
  refine (dat1 V c).arrAt_eq_of_covers 5 _ (by decide +kernel) fun t _ y => ?_
  blk_simp
  rw [after1_5, payload_eq]; frame_out
  exact bins_blocks (funext (block0 V c t)) (funext (block1 V c t)) (funext (block2 V c t)) (funext (block3 V c t))
    (funext (block4 V c t)) h

end Cert.Calib.Kernel3
end
-- ==== Proof.EceRef.lean ====
/-
  The reference of the whole problem, run: its result is the calibration error of the rows' confidences and hits over
  the edges of the ascending confidences.
-/
module

public import proofs.«01_k».proof.Proof.RefRun
public import proofs.«01_k».proof.Proof.Edges
public import proofs.«01_k».proof.Proof.Gen.EceRefIdeal

@[expose] public section

set_option maxRecDepth 16384

noncomputable section

open Idealize.ShloMosaic Idealize.ShloMosaic.TcCoe Idealize.SL.Sem

namespace Cert.Calib.Ref3

open Cert.EceRefIdeal Cert.EceRefIdeal.Gen Cert.Calib

/-! ## Confidences and hits -/

/-- Each row's largest entry. -/
def top (S : FVec Ideal S50000x1000 .f32) : FVec Ideal S50000 .f32 :=
  Host.reduce FloatOps.maximumf S (constant S_ FTy.f32 0xFF800000#32) reducesTo_S50000x1000_S50000_d1 h_S_

theorem top_at (S : FVec Ideal S50000x1000 .f32) (r : Fin 50000) :
    (top S (ix1 r) : EReal) = Finset.univ.fold max (Ideal.ofBits .f32 0xFF800000#32) fun k => S (ix2 r k) := by
  pointwise [top]

theorem conf_at (X : FVec Ideal S50000x1000 .f32) (h : Ref1.RowsFinite X) (r : Fin 50000) :
    (top (Ref1.soft X) (ix1 r) : EReal) = rowConf fun k => X (ix2 r k) := by
  rw [top_at, show (fun k => (Ref1.soft X (ix2 r k) : EReal)) = _ from funext fun k => Ref1.soft_row X r k]
  exact soft_max _ (h _).1 (h _).2

/-- Where a prediction is the label. -/
def hits (b L : IVec S50000 32) : FVec Ideal S50000 .f32 := uitofp (F := Ideal) .f32 (cmpi CmpIPredicate.eq b L)

theorem hits_at (b L : IVec S50000 32) (r : Fin 50000) : (hits b L (ix1 r) : EReal) = if b (ix1 r) = L (ix1 r) then 1 else 0 := by
  refine Eq.trans ?_ (Ref1.bit_at _ _)
  pointwise [hits]

theorem acc_at (X : FVec Ideal S50000x1000 .f32) (L : IVec S50000 32) (h : Ref1.RowsFinite X) (r : Fin 50000) :
    (hits (fun j => (Ref1.best (Ref1.soft X) j).2) L (ix1 r) : EReal) = rowHit (fun k => X (ix2 r k)) (L (ix1 r)) := by
  refine (hits_at _ L r).trans ?_
  beta_reduce
  rw [Ref1.best_at (Ref1.soft X) r (fun k => X (ix2 r k)) (h _).1 (h _).2 fun k => Ref1.soft_row X _ k]
  rfl

/-! ## Edges -/

/-- The comparator of the sort is "less than". -/
theorem comparator_eq (a b : EReal) : comparator_f32_d0 (F := Ideal) a b = BitVec.ofBool (decide (a < b)) := by
  have h0 : (Ideal.ofBits .f32 0x00000000#32 : EReal) = 0 := by simp [Ideal.ofBits, Ideal.ieee]
  have hs : ∀ x : EReal, Scalar.select (Ideal.cmp .oeq x 0) 0 x = x := fun x => by
    by_cases hx : x = 0 <;> simp [Ideal.cmp, Scalar.select, hx]
  have hn : ∀ x y : EReal, Scalar.select (Ideal.cmp .une x x) y x = x := fun x y => by
    simp [Ideal.cmp, Scalar.select]
  show Ideal.cmp .olt (Scalar.select (Ideal.cmp .une a a) _ (Scalar.select (Ideal.cmp .oeq a (Ideal.ofBits .f32 0x00000000#32)) (Ideal.ofBits .f32 0x00000000#32) a))
    (Scalar.select (Ideal.cmp .une b b) _ (Scalar.select (Ideal.cmp .oeq b (Ideal.ofBits .f32 0x00000000#32)) (Ideal.ofBits .f32 0x00000000#32) b)) = _
  rw [h0, hs, hs, hn, hn]
  rfl

def ordered (C : FVec Ideal S50000 .f32) : FVec Ideal S50000 .f32 := Host.sort S50000 0 (comparator_f32_d0 (F := Ideal)) C

theorem ordered_asc (C : FVec Ideal S50000 .f32) :
    Ascending (fun r => (C (ix1 r) : EReal)) (fun r => (ordered C (ix1 r) : EReal)) :=
  ascending_sort (comparator_f32_d0 (F := Ideal)) comparator_eq C

/-- A table of ranks as the gather takes it. -/
def places (t : IVec S16 32) : IVec S16x1 32 :=
  broadcastInDim S16x1 ![0] bcast_S16_S16x1_0 (select (constantI S16 1 0#1) (addi t (broadcastInDim S16 ![] bcast_S_S16 (constantI S_ 32 50000#32))) t)

theorem places_at (t : IVec S16 32) (k : Fin 16) : places t (ix2 k 0) = t (ix1 k) := by
  pointwise [places]

def read (s : FVec Ideal S50000 .f32) (t : IVec S16 32) : FVec Ideal S16 .f32 :=
  Host.gather gather_S50000_S16x1_S16_n_0_n_n_0_1_1 s (places t)

theorem read_at (s : FVec Ideal S50000 .f32) (t : IVec S16 32) (k : Fin 16) (r : Fin 50000)
    (h : t (ix1 k) = BitVec.ofNat 32 r.val) : read s t (ix1 k) = s (ix1 r) :=
  Routing.gather_take1 gather_S50000_S16x1_S16_n_0_n_n_0_1_1 rfl rfl rfl rfl s (places t) k r ((places_at t k).trans h) (by norm_num)

def lows : IVec S16 32 := fun i => lit0 (S16.rowMajor i)
def highs : IVec S16 32 := fun i => lit1 (S16.rowMajor i)
def fracs : FVec Ideal S16 .f32 := fun i => FloatOps.ofBits .f32 (lit2 (S16.rowMajor i))
def past : IVec S16 1 := fun i => lit3 (S16.rowMajor i)

theorem rowMajor16 (k : Fin 16) : S16.rowMajor (ix1 k) = k := by
  fin_cases k <;> rfl

theorem lows_at (k : Fin 16) : lows (ix1 k) = BitVec.ofNat 32 (below k).val := by
  unfold lows; rw [rowMajor16]; revert k; decide

theorem highs_at (k : Fin 16) : highs (ix1 k) = BitVec.ofNat 32 (above k).val := by
  unfold highs; rw [rowMajor16]; revert k; decide

theorem fracs_at (k : Fin 16) : (fracs (ix1 k) : EReal) = Ideal.ofBits .f32 (fracWord k) := by
  unfold fracs; rw [rowMajor16]
  exact congrArg (Ideal.ofBits .f32) (by revert k; decide)

theorem past_at (k : Fin 16) : past (ix1 k) = if k = 15 then 1#1 else 0#1 := by
  unfold past; rw [rowMajor16]; revert k; decide

/-- The last entry of the ascending list, as a scalar. -/
def last (s : FVec Ideal S50000 .f32) : FVec Ideal S_ .f32 :=
  shapeCast S_ (extractStridedSlice S1 ![49999] s slices_S50000_S1_49999) shapeCasts_S1_S_

theorem last_at (s : FVec Ideal S50000 .f32) : last s ix0 = s (ix1 ⟨49999, by omega⟩) := by
  pointwise [last]

def edges (s : FVec Ideal S50000 .f32) : FVec Ideal S16 .f32 :=
  select past (broadcastInDim S16 ![] bcast_S_S16 (last s)) (addf (read s lows) (mulf fracs (subf (read s highs) (read s lows))))

theorem edges_at (s : FVec Ideal S50000 .f32) (k : Fin 16) :
    (edges s (ix1 k) : EReal) = edgeOf (fun r => (s (ix1 r) : EReal)) k := by
  have h1 := read_at s lows k (below k) (lows_at k)
  have h2 := read_at s highs k (above k) (highs_at k)
  have h3 := fracs_at k
  have h4 := past_at k
  have h5 := last_at s
  unfold edges edgeOf between
  beta_reduce
  rw [← h1, ← h2, ← h3, ← h5]
  clear h1 h2 h3 h5
  generalize read s lows = a, read s highs = b, fracs = f, last s = l
  generalize past = p at h4
  have e : (select p (broadcastInDim S16 ![] bcast_S_S16 l) (addf a (mulf f (subf b a))) (ix1 k) : EReal)
      = Scalar.select (p (ix1 k)) (l ix0) ((a (ix1 k) : EReal) + f (ix1 k) * (b (ix1 k) - a (ix1 k))) := by
    pointwise
  rw [e, h4]
  by_cases hk : k = 15 <;> simp [hk, Scalar.select]

/-! ## Bins -/

/-- A row vector as a matrix with a row for each bin. -/
def rowsOf (v : FVec Ideal S50000 .f32) : FVec Ideal S15x50000 .f32 :=
  broadcastInDim S15x50000 ![0, 1] bcast_S1x50000_S15x50000_0_1 (broadcastInDim S1x50000 ![1] bcast_S50000_S1x50000_1 v)

theorem rowsOf_at (v : FVec Ideal S50000 .f32) (k : Fin 15) (r : Fin 50000) : rowsOf v (ix2 k r) = v (ix1 r) := by
  pointwise [rowsOf]

def colsOf (v : FVec Ideal S15 .f32) : FVec Ideal S15x50000 .f32 :=
  broadcastInDim S15x50000 ![0, 1] bcast_S15x1_S15x50000_0_1 (broadcastInDim S15x1 ![0] bcast_S15_S15x1_0 v)

theorem colsOf_at (v : FVec Ideal S15 .f32) (k : Fin 15) (r : Fin 50000) : colsOf v (ix2 k r) = v (ix1 k) := by
  pointwise [colsOf]

def los (E : FVec Ideal S16 .f32) : FVec Ideal S15 .f32 := extractStridedSlice S15 ![0] E slices_S16_S15_0
def his (E : FVec Ideal S16 .f32) : FVec Ideal S15 .f32 := extractStridedSlice S15 ![1] E slices_S16_S15_1

theorem los_at (E : FVec Ideal S16 .f32) (k : Fin 15) : los E (ix1 k) = E (ix1 k.castSucc) := by
  unfold los
  refine congrArg E (funext fun a => Fin.ext ?_)
  match a with
  | ⟨0, _⟩ => exact Nat.zero_add _

theorem his_at (E : FVec Ideal S16 .f32) (k : Fin 15) : his E (ix1 k) = E (ix1 k.succ) := by
  unfold his
  refine congrArg E (funext fun a => Fin.ext ?_)
  match a with
  | ⟨0, _⟩ => exact Nat.add_comm _ _

/-- Which confidences lie in which bin. -/
def masks (C : FVec Ideal S50000 .f32) (lo hi : FVec Ideal S15 .f32) : FVec Ideal S15x50000 .f32 :=
  uitofp .f32 (andi (cmpf .ogt (rowsOf C) (colsOf lo)) (cmpf .ole (rowsOf C) (colsOf hi)))

theorem bit_at (x lo hi : EReal) :
    (FloatOps.uitofp (F := Ideal) .f32 (IntOp.andi (BitVec.ofBool (decide (lo < x))) (BitVec.ofBool (decide (x ≤ hi)))) : EReal) = inBin x lo hi := by
  show (((IntOp.andi (BitVec.ofBool (decide (lo < x))) (BitVec.ofBool (decide (x ≤ hi)))).toNat : ℝ) : EReal) = _
  unfold inBin
  by_cases h1 : lo < x <;> by_cases h2 : x ≤ hi <;> simp [IntOp.andi, h1, h2]

theorem masks_at (C : FVec Ideal S50000 .f32) (lo hi : FVec Ideal S15 .f32) (k : Fin 15) (r : Fin 50000) :
    (masks C lo hi (ix2 k r) : EReal) = inBin (C (ix1 r)) (lo (ix1 k)) (hi (ix1 k)) := by
  rw [← rowsOf_at C k r, ← colsOf_at lo k r, ← colsOf_at hi k r]
  unfold masks
  generalize rowsOf C = c, colsOf lo = a, colsOf hi = b
  refine Eq.trans ?_ (bit_at _ _ _)
  pointwise

def sums (M : FVec Ideal S15x50000 .f32) : FVec Ideal S15 .f32 :=
  Host.reduceAdd M (constant S_ FTy.f32 0x00000000#32) reducesTo_S15x50000_S15_d1 h_S_

theorem sums_at (M : FVec Ideal S15x50000 .f32) (k : Fin 15) : (sums M (ix1 k) : EReal) = ∑ r : Fin 50000, M (ix2 k r) := by
  pointwise [sums]

def fill (w : BitVec 32) : FVec Ideal S15 .f32 := broadcastInDim S15 ![] bcast_S_S15 (constant S_ FTy.f32 w)

/-- Each bin's share of the calibration error, from its count and its two sums. -/
def shares (n sc sa : FVec Ideal S15 .f32) : FVec Ideal S15 .f32 :=
  select (cmpf .ogt (Host.divf n (fill 0x47435000#32)) (fill 0x00000000#32))
    (mulf (Host.absf (subf (Host.divf sc (select (cmpf .ogt n (fill 0x00000000#32)) n (fill 0x3F800000#32)))
        (Host.divf sa (select (cmpf .ogt n (fill 0x00000000#32)) n (fill 0x3F800000#32)))))
      (Host.divf n (fill 0x47435000#32)))
    (fill 0x00000000#32)

theorem fifty : (Ideal.ofBits .f32 0x47435000#32 : EReal) = ((50000 : ℝ) : EReal) := by
  simp [Ideal.ofBits, Ideal.ieee]
  rw [← EReal.coe_mul]; norm_num

theorem shares_at (n sc sa : FVec Ideal S15 .f32) (k : Fin 15) :
    (shares n sc sa (ix1 k) : EReal)
      = if 0 < (n (ix1 k) : EReal) then
          FloatOps.absf (F := Ideal) (φ := .f32)
            ((Ideal.div (sc (ix1 k)) (if 0 < (n (ix1 k) : EReal) then n (ix1 k) else 1) : EReal)
              - (Ideal.div (sa (ix1 k)) (if 0 < (n (ix1 k) : EReal) then n (ix1 k) else 1) : EReal) : EReal)
            * ((n (ix1 k) : EReal) * ((1 / 50000 : ℝ) : EReal) : EReal)
        else 0 := by
  pointwise [shares, fill]
  rw [fifty, div_n]
  simp only [prop_pos]

/-- The result from confidences, hits and edges. -/
def result (C A : FVec Ideal S50000 .f32) (E : FVec Ideal S16 .f32) : FVec Ideal S1 .f32 :=
  broadcastInDim S1 ![] bcast_S_S1 (Host.reduceAdd
    (shares (sums (masks C (los E) (his E))) (sums (mulf (rowsOf C) (masks C (los E) (his E)))) (sums (mulf (rowsOf A) (masks C (los E) (his E)))))
    (constant S_ FTy.f32 0x00000000#32) reducesTo_S15_S_d0 h_S_)

theorem add_at (v : FVec Ideal S15 .f32) (i : S1.Idx) :
    (broadcastInDim S1 ![] bcast_S_S1 (Host.reduceAdd v (constant S_ FTy.f32 0x00000000#32) reducesTo_S15_S_d0 h_S_) i : EReal)
      = ∑ k : Fin 15, v (ix1 k) := by
  pointwise

theorem weighted_at (v : FVec Ideal S50000 .f32) (M : FVec Ideal S15x50000 .f32) (k : Fin 15) :
    (sums (mulf (rowsOf v) M) (ix1 k) : EReal) = ∑ r : Fin 50000, (v (ix1 r) : EReal) * M (ix2 k r) := by
  rw [sums_at]
  refine Finset.sum_congr rfl fun r _ => ?_
  rw [← rowsOf_at v k r]
  rfl

theorem result_at (C A : FVec Ideal S50000 .f32) (E : FVec Ideal S16 .f32) (i : S1.Idx) :
    (result C A E i : EReal) = ∑ k : Fin 15, binTerm (fun r : Fin 50000 => (C (ix1 r) : EReal)) (fun r => (A (ix1 r) : EReal))
      (E (ix1 k.castSucc)) (E (ix1 k.succ)) := by
  refine (add_at _ i).trans (Finset.sum_congr rfl fun k _ => ?_)
  rw [shares_at, sums_at, weighted_at, weighted_at]
  simp only [masks_at, los_at, his_at]
  rfl

theorem value (X : FVec Ideal S50000x1000 .f32) (L : IVec S50000 32) (h : Ref1.RowsFinite X) :
    result (top (Ref1.soft X)) (hits (fun j => (Ref1.best (Ref1.soft X) j).2) L) (edges (ordered (top (Ref1.soft X))))
      = fun _ => calibration (fun r : Fin 50000 => rowConf fun k => X (ix2 r k)) (fun r : Fin 50000 => rowHit (fun k => X (ix2 r k)) (L (ix1 r)))
          (fun r => (ordered (top (Ref1.soft X)) (ix1 r) : EReal)) := by
  funext i
  refine (result_at _ _ _ i).trans ?_
  simp only [edges_at, conf_at X h, acc_at X L h]
  rfl

/-- Each row's best entry and its place, as this program pairs them. -/
def pairs (S : FVec Ideal S50000x1000 .f32) : S50000.Idx → EReal × BitVec 32 :=
  Host.argReduce (φ := .f32) (reducer_argmax_f32_i32 (F := Ideal)) S (iotaInDim S50000x1000 32 1) (constant (F := Ideal) S_ FTy.f32 0xFF800000#32)
    (constantI S_ 32 0#32) reducesTo_S50000x1000_S50000_d1 h_S_

theorem reducer_eq : (reducer_argmax_f32_i32 (F := Ideal) : EReal × BitVec 32 → EReal × BitVec 32 → EReal × BitVec 32)
    = Cert.ConfAccRefIdeal.reducer_argmax_f32_i32 (F := Ideal) := rfl

theorem pairs_eq (S : FVec Ideal S50000x1000 .f32) : pairs S = Ref1.best S := by
  unfold pairs Ref1.best
  rw [reducer_eq]

end Cert.Calib.Ref3
end
-- ==== Proof.EceKernel.lean ====
/-
  The kernel's whole run: the confidences and hits of the first call, the ascending confidences on the host, and the
  second call's calibration error.
-/
module

public import proofs.«01_k».proof.Proof.EceRegions
public import proofs.«01_k».proof.Proof.EceRef
public import Idealize.ShloMosaic.Lib.StableHlo.RunRead

@[expose] public section

set_option maxRecDepth 16384

noncomputable section

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (cellOf)

namespace Cert.Calib.Kernel3

open Cert.EceIdeal Cert.EceIdeal.Gen Cert.Calib

/-! ## The host between the calls -/

theorem comparator_eq : (comparator_f32_d0 (F := Ideal) : EReal → EReal → BitVec 1) = Cert.EceRefIdeal.comparator_f32_d0 (F := Ideal) := rfl

/-- The confidences of the first call as one list. -/
def flat (X : FVec Ideal S50000x1000 .f32) : FVec Ideal S50000 .f32 :=
  shapeCast (s := S25x1x2000) S50000 (confs X) shapeCasts_S25x1x2000_S50000

theorem flat_at (X : FVec Ideal S50000x1000 .f32) (r : Fin 50000) : (flat X (ix1 r) : EReal) = rowConf fun k => X (ix2 r k) := by
  have e : flat X (ix1 r) = confs X (ix3 ⟨r.val / 2000, by have := r.isLt; omega⟩ 0 ⟨r.val % 2000, by omega⟩) := by
    unfold flat
    generalize confs X = Y
    pointwise
  refine e.trans (congrArg rowConf (funext fun k => ?_))
  exact congrArg (fun q : Fin 50000 => X (ix2 q k)) (Fin.ext (by
    show r.val / 2000 * 2000 + r.val % 2000 = r.val
    omega))

def ordered (C : FVec Ideal S50000 .f32) : FVec Ideal S50000 .f32 := Host.sort S50000 0 (comparator_f32_d0 (F := Ideal)) C

theorem ordered_eq (C : FVec Ideal S50000 .f32) : ordered C = Ref3.ordered C := by
  unfold ordered Ref3.ordered
  rw [comparator_eq]

/-- A table of ranks as the gather takes it. -/
def places (t : IVec S14 32) : IVec S14x1 32 :=
  broadcastInDim S14x1 ![0] bcast_S14_S14x1_0 (select (constantI S14 1 0#1) (addi t (broadcastInDim S14 ![] bcast_S_S14 (constantI S_ 32 50000#32))) t)

theorem places_at (t : IVec S14 32) (k : Fin 14) : places t (ix2 k 0) = t (ix1 k) := by
  pointwise [places]

def read (s : FVec Ideal S50000 .f32) (t : IVec S14 32) : FVec Ideal S14 .f32 :=
  Host.gather gather_S50000_S14x1_S14_n_0_n_n_0_1_1 s (places t)

theorem read_at (s : FVec Ideal S50000 .f32) (t : IVec S14 32) (k : Fin 14) (r : Fin 50000)
    (h : t (ix1 k) = BitVec.ofNat 32 r.val) : read s t (ix1 k) = s (ix1 r) :=
  Routing.gather_take1 gather_S50000_S14x1_S14_n_0_n_n_0_1_1 rfl rfl rfl rfl s (places t) k r ((places_at t k).trans h) (by norm_num)

def lows : IVec S14 32 := fun i => lit0 (S14.rowMajor i)
def fracs : FVec Ideal S14 .f32 := fun i => FloatOps.ofBits .f32 (lit1 (S14.rowMajor i))

theorem rowMajor14 (k : Fin 14) : S14.rowMajor (ix1 k) = k := by
  fin_cases k <;> rfl

theorem lows_at (k : Fin 14) : lows (ix1 k) = BitVec.ofNat 32 (below (inner k)).val := by
  unfold lows; rw [rowMajor14]; revert k; decide

theorem fracs_at (k : Fin 14) : (fracs (ix1 k) : EReal) = Ideal.ofBits .f32 (fracWord (inner k)) := by
  unfold fracs; rw [rowMajor14]
  exact congrArg (Ideal.ofBits .f32) (by revert k; decide)

variable (m : (ℓ : Loc nD τ sig) → Buf (Elt Ideal) ℓ) (ρ : Dev nD → PrngReg)

theorem labels_eq (c : Dev nD) : V1 m ρ c main_v0
    = shapeCast (s := S50000) S25x1x2000 (m ((c : Thread nD τ).loc main_arg1)) shapeCasts_S50000_S25x1x2000 := by
  show StableHlo.after hostOps0 (W0 m ρ c) (Proc.devRef .tc main_v0) = _
  after_reads_simp
  rfl

theorem logits_eq (c : Dev nD) : V1 m ρ c main_arg0 = m ((c : Thread nD τ).loc main_arg0) := W1_args m ρ c main_arg0 (by decide)

theorem W2_confs (c : Dev nD) : W2 m ρ c (Proc.devRef .tc main_v1_0) = confs (m ((c : Thread nD τ).loc main_arg0)) :=
  (W2_arr m ρ c 2).trans ((final2 (V1 m ρ) c).trans (congrArg confs (logits_eq m ρ c)))

theorem W2_accs (c : Dev nD) : W2 m ρ c (Proc.devRef .tc main_v1_1)
    = accs (m ((c : Thread nD τ).loc main_arg0)) (m ((c : Thread nD τ).loc main_arg1)) :=
  (W2_arr m ρ c 3).trans ((final3 (V1 m ρ) c _ (labels_eq m ρ c)).trans
    (congrArg (fun X => accs X (m ((c : Thread nD τ).loc main_arg1))) (logits_eq m ρ c)))

theorem W2_lows (c : Dev nD) : W2 m ρ c (Proc.devRef .tc main_c) = lows := by
  refine (W2_of m ρ c main_c (by decide)).trans ?_
  show StableHlo.after hostOps0 (W0 m ρ c) (Proc.devRef .tc main_c) = _
  after_reads_simp
  rfl

theorem W2_zeros (c : Dev nD) : W2 m ρ c (Proc.devRef .tc main_c_0) = constantI S14 1 0#1 := by
  refine (W2_of m ρ c main_c_0 (by decide)).trans ?_
  show StableHlo.after hostOps0 (W0 m ρ c) (Proc.devRef .tc main_c_0) = _
  after_reads_simp

theorem W2_fracs (c : Dev nD) : W2 m ρ c (Proc.devRef .tc main_cst) = fracs := by
  refine (W2_of m ρ c main_cst (by decide)).trans ?_
  show StableHlo.after hostOps0 (W0 m ρ c) (Proc.devRef .tc main_cst) = _
  after_reads_simp
  rfl

theorem W3_lows (c : Dev nD) : W3 m ρ c (Proc.devRef .tc main_c) = lows := (W3_of m ρ c main_c (by decide)).trans (W2_lows m ρ c)
theorem W3_fracs (c : Dev nD) : W3 m ρ c (Proc.devRef .tc main_cst) = fracs := (W3_of m ρ c main_cst (by decide)).trans (W2_fracs m ρ c)
theorem W3_confs (c : Dev nD) : W3 m ρ c (Proc.devRef .tc main_v1_0) = confs (m ((c : Thread nD τ).loc main_arg0)) :=
  (W3_of m ρ c main_v1_0 (by decide)).trans (W2_confs m ρ c)
theorem W3_accs (c : Dev nD) : W3 m ρ c (Proc.devRef .tc main_v1_1)
    = accs (m ((c : Thread nD τ).loc main_arg0)) (m ((c : Thread nD τ).loc main_arg1)) :=
  (W3_of m ρ c main_v1_1 (by decide)).trans (W2_accs m ρ c)

theorem W3_reads (c : Dev nD) : W3 m ρ c (Proc.devRef .tc main_v8) = read (ordered (flat (m ((c : Thread nD τ).loc main_arg0)))) lows := by
  have h0 := W2_confs m ρ c
  have h1 := W2_lows m ρ c
  have h2 := W2_zeros m ρ c
  show StableHlo.after hostOps1 (W2 m ρ c) (Proc.devRef .tc main_v8) = _
  unfold flat
  generalize confs (m ((c : Thread nD τ).loc main_arg0)) = Y at h0 ⊢
  generalize lows = l at h1 ⊢
  generalize W2 m ρ c = A at h0 h1 h2 ⊢
  after_reads_simp
  rw [h0, h1, h2]
  unfold read places ordered
  rfl

theorem small (X : FVec Ideal S50000x1000 .f32) (hX : Ref1.RowsFinite X) (r : Fin 50000) : rowConf (fun k => X (ix2 r k)) ≤ 2 := by
  have h1 := one_le_sum _ (hX r).1 (hX r).2
  rw [rowConf_eq _ (hX r).1 (hX r).2]
  refine (EReal.coe_le_coe_iff.mpr (?_ : _ ≤ (2 : ℝ))).trans_eq (by norm_cast)
  exact (div_le_one (by linarith)).mpr h1 |>.trans (by norm_num)

theorem asc (X : FVec Ideal S50000x1000 .f32) :
    Ascending (fun r : Fin 50000 => rowConf fun k => X (ix2 r k)) (fun r => (ordered (flat X) (ix1 r) : EReal)) := by
  rw [ordered_eq, ← show (fun r : Fin 50000 => (flat X (ix1 r) : EReal)) = _ from funext fun r => flat_at X r]
  exact Ref3.ordered_asc (flat X)

/-- What the second call is given by the first and by the host, -/
theorem given (X : FVec Ideal S50000x1000 .f32) (L : IVec S50000 32) (hX : Ref1.RowsFinite X) :
    Holds (confs X) (accs X L) (read (ordered (flat X)) lows) lows fracs (fun r : Fin 50000 => rowConf fun k => X (ix2 r k))
      (fun r : Fin 50000 => rowHit (fun k => X (ix2 r k)) (L (ix1 r))) (fun r => (ordered (flat X) (ix1 r) : EReal)) where
  confs p := congrArg (fun q : Fin 50000 => rowConf fun k => X (ix2 q k)) (Fin.ext (rowAt_val p).symm : (⟨p.1.val * 2000 + p.2.val, _⟩ : Fin 50000) = rowAt p)
  hits p := congrArg (fun q : Fin 50000 => rowHit (fun k => X (ix2 q k)) (L (ix1 q))) (Fin.ext (rowAt_val p).symm : (⟨p.1.val * 2000 + p.2.val, _⟩ : Fin 50000) = rowAt p)
  lows t := read_at _ _ t _ (lows_at t)
  ranks := lows_at
  fracs := fracs_at
  asc := asc X
  small := small X hX

theorem given_of {x0 x1 y0 y1} {x2 x4 y2 y4} {x3 y3} {conf acc s : Fin 50000 → EReal} (e0 : y0 = x0) (e1 : y1 = x1)
    (e2 : y2 = x2) (e3 : y3 = x3) (e4 : y4 = x4) (h : Holds x0 x1 x2 x3 x4 conf acc s) : Holds y0 y1 y2 y3 y4 conf acc s := by
  subst e0 e1 e2 e3 e4
  exact h

/-- and so what its operands hold. -/
theorem holds (c : Dev nD) (hX : Ref1.RowsFinite (m ((c : Thread nD τ).loc main_arg0))) :
    Holds (V3 m ρ c main_v1_0) (V3 m ρ c main_v1_1) (V3 m ρ c main_v8) (V3 m ρ c main_c) (V3 m ρ c main_cst)
      (fun r : Fin 50000 => rowConf fun k => m ((c : Thread nD τ).loc main_arg0) (ix2 r k))
      (fun r : Fin 50000 => rowHit (fun k => m ((c : Thread nD τ).loc main_arg0) (ix2 r k)) (m ((c : Thread nD τ).loc main_arg1) (ix1 r)))
      (fun r => (ordered (flat (m ((c : Thread nD τ).loc main_arg0))) (ix1 r) : EReal)) :=
  given_of (W3_confs m ρ c) (W3_accs m ρ c) (W3_reads m ρ c) (W3_lows m ρ c) (W3_fracs m ρ c) (given _ _ hX)

theorem W5_value (c : Dev nD) (hX : Ref1.RowsFinite (m ((c : Thread nD τ).loc main_arg0))) :
    W5 m ρ c (Proc.devRef .tc main_v11) = fun _ => calibration
      (fun r : Fin 50000 => rowConf fun k => m ((c : Thread nD τ).loc main_arg0) (ix2 r k))
      (fun r : Fin 50000 => rowHit (fun k => m ((c : Thread nD τ).loc main_arg0) (ix2 r k)) (m ((c : Thread nD τ).loc main_arg1) (ix1 r)))
      (fun r => (ordered (flat (m ((c : Thread nD τ).loc main_arg0))) (ix1 r) : EReal)) := by
  have h : W4 m ρ c (Proc.devRef .tc main_v9) = _ := (W4_arr m ρ c 5).trans (final5 (V3 m ρ) c _ _ _ (holds m ρ c hX))
  show StableHlo.after hostOps2 (W4 m ρ c) (Proc.devRef .tc main_v11) = _
  generalize W4 m ρ c = A at h ⊢
  after_reads_simp
  rw [h]
  rfl

local notation "𝕄" => MT nD τ sig Unit (Elt Ideal) ℕ (UR sig nD τ) ℕ

set_option backward.isDefEq.respectTransparency.types false in
/-- The whole kernel: it ends with the calibration error of the rows' confidences and hits, over the edges that the
    ascending confidences set, and its arguments unchanged. -/
theorem run (hX : ∀ c : Dev nD, Ref1.RowsFinite (m ((c : Thread nD τ).loc main_arg0))) :
    θ_run defs (onTc (τ := τ) (main (F := Ideal))) ⟨m, fun _ => 0, ρ⟩ (fun r => (∀ c : Dev nD,
      r.2.mem ((c.tc : Thread nD τ).loc main_v11) = (fun _ => calibration
        (fun r : Fin 50000 => rowConf fun k => m ((c : Thread nD τ).loc main_arg0) (ix2 r k))
        (fun r : Fin 50000 => rowHit (fun k => m ((c : Thread nD τ).loc main_arg0) (ix2 r k)) (m ((c : Thread nD τ).loc main_arg1) (ix1 r)))
        (fun r => (ordered (flat (m ((c : Thread nD τ).loc main_arg0))) (ix1 r) : EReal)))
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨(fun c =>
      ⟨(h c _ (mem_uc main_v11 (by decide))).trans (W5_value m ρ c (hX c)),
       (h c _ (mem_uc main_arg0 (by decide))).trans (W5_main_arg0 m ρ c),
       (h c _ (mem_uc main_arg1 (by decide))).trans (W5_main_arg1 m ρ c)⟩), funext fun g => hz g (.inr (no_unscoped g.2))⟩)

end Cert.Calib.Kernel3
end
-- ==== Proof.EceRefRun.lean ====
/-
  The reference's whole run: what it leaves in its result.
-/
module

public import proofs.«01_k».proof.Proof.EceRef
public import Idealize.ShloMosaic.Lib.StableHlo.RunRead
@[expose] public section
set_option maxRecDepth 16384
noncomputable section
open Idealize.ShloMosaic Idealize.ShloMosaic.TcCoe Idealize.SL.Sem
namespace Cert.Calib.Ref3
open Cert.EceRefIdeal Cert.EceRefIdeal.Gen Cert.Calib
variable (m : (ℓ : Loc nD τ sig) → Buf (Elt Ideal) ℓ) (ρ : Dev nD → PrngReg)

/-- A line of operations run in two parts. -/
theorem after_cut (n : ℕ) : ∀ (ops : List (HloOp τ sig (Elt Ideal))) (V : Valuation τ sig (Elt Ideal)),
    StableHlo.after ops V = StableHlo.after (ops.drop n) (StableHlo.after (ops.take n) V) := by
  induction n with
  | zero => intro ops V; rfl
  | succ n ih =>
    intro ops V
    cases ops with
    | nil => rfl
    | cons op ops => exact ih ops _

/-- The last edge is the largest entry: the call that chooses between the two forms of an edge. -/
theorem chosen (U : Valuation τ sig (Elt Ideal)) (p : IVec S16 1) (z : FVec Ideal S_ .f32) (e : FVec Ideal S16 .f32)
   (h1 : U (Proc.devRef .tc main_c_3) = p) (h2 : U (Proc.devRef .tc main_v28) = e) (h3 : U (Proc.devRef .tc main_v30) = z) :
   StableHlo.after [(StableHlo.TRef.of main_v30 : StableHlo.TRef sig ⟨S_, .f32⟩).unary (main_call2.v0) (broadcastInDim S16 ![] bcast_S_S16 : (⟨S_, .f32⟩ : BufTy).Contents (Elt Ideal) → (⟨S16, .f32⟩ : BufTy).Contents (Elt Ideal)),
     StableHlo.TRef.ternary (StableHlo.TRef.of main_c_3 : StableHlo.TRef sig ⟨S16, .i1⟩) main_call2.v0 (StableHlo.TRef.of main_v28 : StableHlo.TRef sig ⟨S16, .f32⟩) main_call2.v1 (select : (⟨S16, .i1⟩ : BufTy).Contents (Elt Ideal) → (⟨S16, .f32⟩ : BufTy).Contents (Elt Ideal) → (⟨S16, .f32⟩ : BufTy).Contents (Elt Ideal) → (⟨S16, .f32⟩ : BufTy).Contents (Elt Ideal))] U (Proc.devRef .tc main_v31) = select p (broadcastInDim S16 ![] bcast_S_S16 z) e := by
  after_reads_simp
  rw [h1, h2, h3]
  simp only [StableHlo.TRef.toBuf, StableHlo.TRef.ofBuf, cast_eq, id_eq]
set_option maxHeartbeats 800000 in
/-- The reference ends with the weighted sum over the bins, and its arguments unchanged. Its operations are taken a
    stretch at a time, each from what the stretch before it leaves. -/
theorem run :
    θ_run defs (onTc (τ := τ) (main (F := Ideal))) ⟨m, fun _ => 0, ρ⟩ fun r => ∀ c : Dev nD,
      r.2.mem ((c : Thread nD τ).loc main_v70) = result (top (Ref1.soft (m ((c : Thread nD τ).loc main_arg0))))
          (hits (fun j => (pairs (Ref1.soft (m ((c : Thread nD τ).loc main_arg0))) j).2) (m ((c : Thread nD τ).loc main_arg1)))
          (edges (ordered (top (Ref1.soft (m ((c : Thread nD τ).loc main_arg0))))))
      ∧ r.2.mem ((c : Thread nD τ).loc main_arg0) = m ((c : Thread nD τ).loc main_arg0)
      ∧ r.2.mem ((c : Thread nD τ).loc main_arg1) = m ((c : Thread nD τ).loc main_arg1) := by
  refine θ_run_mono (StableHlo.run_hlo _ _ (by hlo_seq) (by decide) (by decide) (by simp)
      (by intro _ h; (repeat (cases h with | head => rfl | tail _ h => ?_)); exact nomatch h) _ _) ?_
  intro r h c
  have h0 := h c main_arg0
  have h1 := h c main_arg1
  have h70 := h c main_v70
  clear h
  refine ⟨?_, ?_, ?_⟩
  rotate_left
  · rw [h0]; clear h0 h1 h70
    after_reads_simp
  · rw [h1]; clear h0 h1 h70
    after_reads_simp
  clear h0 h1
  rw [h70]; clear h70 r
  rw [after_cut 29, after_cut 1 (List.drop 29 _), after_cut 6 (List.drop 1 _), after_cut 6 (List.drop 6 _), after_cut 7 (List.drop 6 (List.drop 6 _))]
  rw [after_cut 14 (List.drop 7 _), after_cut 14 (List.drop 14 _), after_cut 12 (List.drop 14 (List.drop 14 _))]
  simp only [List.take_succ_cons, List.take_zero, List.drop_succ_cons, List.drop_zero]
  generalize hA : StableHlo.after _ (StableHlo.launchContents m c) = A
  have hA11 : A (Proc.devRef .tc main_v11) = top (Ref1.soft (m ((c : Thread nD τ).loc main_arg0))) := by
    rw [← hA]; after_reads_simp; rfl
  have hA14 : A (Proc.devRef .tc main_v14) = hits (fun j => (pairs (Ref1.soft (m ((c : Thread nD τ).loc main_arg0))) j).2) (m ((c : Thread nD τ).loc main_arg1)) := by
    rw [← hA]; after_reads_simp; rfl
  have hAc : A (Proc.devRef .tc main_c) = lows := by
    rw [← hA]; after_reads_simp; rfl
  have hAc0 : A (Proc.devRef .tc main_c_0) = constantI S16 1 0#1 := by
    rw [← hA]; after_reads_simp
  have hAc1 : A (Proc.devRef .tc main_c_1) = highs := by
    rw [← hA]; after_reads_simp; rfl
  have hAc2 : A (Proc.devRef .tc main_c_2) = constantI S16 1 0#1 := by
    rw [← hA]; after_reads_simp
  have hAc3 : A (Proc.devRef .tc main_c_3) = past := by
    rw [← hA]; after_reads_simp; rfl
  have hAcst : A (Proc.devRef .tc main_cst) = fracs := by
    rw [← hA]; after_reads_simp; rfl
  clear hA
  generalize hB : StableHlo.after _ A = B
  have hB15 : B (Proc.devRef .tc main_v15) = ordered (A (Proc.devRef .tc main_v11)) := by
    rw [← hB]; after_reads_simp
    simp only [StableHlo.TRef.toBuf, StableHlo.TRef.ofBuf, cast_eq, id_eq]
    unfold ordered
    with_reducible rfl
  have hB11 : B (Proc.devRef .tc main_v11) = A (Proc.devRef .tc main_v11) := by rw [← hB]; after_reads_simp
  have hB14 : B (Proc.devRef .tc main_v14) = A (Proc.devRef .tc main_v14) := by rw [← hB]; after_reads_simp
  have hBc : B (Proc.devRef .tc main_c) = A (Proc.devRef .tc main_c) := by rw [← hB]; after_reads_simp
  have hBc0 : B (Proc.devRef .tc main_c_0) = A (Proc.devRef .tc main_c_0) := by rw [← hB]; after_reads_simp
  have hBc1 : B (Proc.devRef .tc main_c_1) = A (Proc.devRef .tc main_c_1) := by rw [← hB]; after_reads_simp
  have hBc2 : B (Proc.devRef .tc main_c_2) = A (Proc.devRef .tc main_c_2) := by rw [← hB]; after_reads_simp
  have hBc3 : B (Proc.devRef .tc main_c_3) = A (Proc.devRef .tc main_c_3) := by rw [← hB]; after_reads_simp
  have hBcst : B (Proc.devRef .tc main_cst) = A (Proc.devRef .tc main_cst) := by rw [← hB]; after_reads_simp
  clear hB
  rw [hA11] at hB11 hB15
  rw [hA14] at hB14
  rw [hAc] at hBc
  rw [hAc0] at hBc0
  rw [hAc1] at hBc1
  rw [hAc2] at hBc2
  rw [hAc3] at hBc3
  rw [hAcst] at hBcst
  clear hA11 hA14 hAc hAc0 hAc1 hAc2 hAc3 hAcst
  generalize top (Ref1.soft (m ((c : Thread nD τ).loc main_arg0))) = T at hB11 hB15 ⊢
  generalize hits (fun j => (pairs (Ref1.soft (m ((c : Thread nD τ).loc main_arg0))) j).2) (m ((c : Thread nD τ).loc main_arg1)) = H at hB14 ⊢
  generalize ordered T = O at hB15 ⊢
  generalize hP : StableHlo.after _ B = P
  have hP11 : P (Proc.devRef .tc main_v11) = T := by rw [← hP]; after_reads_simp; exact hB11
  have hP14 : P (Proc.devRef .tc main_v14) = H := by rw [← hP]; after_reads_simp; exact hB14
  have hP15 : P (Proc.devRef .tc main_v15) = O := by rw [← hP]; after_reads_simp; exact hB15
  have hPc1 : P (Proc.devRef .tc main_c_1) = highs := by rw [← hP]; after_reads_simp; exact hBc1
  have hPc2 : P (Proc.devRef .tc main_c_2) = constantI S16 1 0#1 := by rw [← hP]; after_reads_simp; exact hBc2
  have hPc3 : P (Proc.devRef .tc main_c_3) = past := by rw [← hP]; after_reads_simp; exact hBc3
  have hPcst : P (Proc.devRef .tc main_cst) = fracs := by rw [← hP]; after_reads_simp; exact hBcst
  have hP20 : P (Proc.devRef .tc main_v20) = read O lows := by
    rw [← hP]; after_reads_simp
    rw [hB15, hBc, hBc0]
    unfold read places
    with_reducible rfl
  clear hP hB11 hB14 hB15 hBc hBc0 hBc1 hBc2 hBc3 hBcst
  generalize hQ : StableHlo.after _ P = Q
  have hQ11 : Q (Proc.devRef .tc main_v11) = T := by rw [← hQ]; after_reads_simp; exact hP11
  have hQ14 : Q (Proc.devRef .tc main_v14) = H := by rw [← hQ]; after_reads_simp; exact hP14
  have hQ15 : Q (Proc.devRef .tc main_v15) = O := by rw [← hQ]; after_reads_simp; exact hP15
  have hQc3 : Q (Proc.devRef .tc main_c_3) = past := by rw [← hQ]; after_reads_simp; exact hPc3
  have hQcst : Q (Proc.devRef .tc main_cst) = fracs := by rw [← hQ]; after_reads_simp; exact hPcst
  have hQ20 : Q (Proc.devRef .tc main_v20) = read O lows := by rw [← hQ]; after_reads_simp; exact hP20
  have hQ25 : Q (Proc.devRef .tc main_v25) = read O highs := by
    rw [← hQ]; after_reads_simp
    rw [hP15, hPc1, hPc2]
    unfold read places
    with_reducible rfl
  clear hQ hP11 hP14 hP15 hPc1 hPc2 hPc3 hPcst hP20
  generalize hC : StableHlo.after _ Q = C
  rw [after_cut 3, after_cut 1 (List.drop 3 _), after_cut 1 (List.drop 1 (List.drop 3 _))] at hC
  simp only [List.take_succ_cons, List.take_zero, List.drop_succ_cons, List.drop_zero] at hC
  generalize hR : StableHlo.after _ Q = R at hC
  have hR11 : R (Proc.devRef .tc main_v11) = T := by rw [← hR]; after_reads_simp; exact hQ11
  have hR14 : R (Proc.devRef .tc main_v14) = H := by rw [← hR]; after_reads_simp; exact hQ14
  have hR15 : R (Proc.devRef .tc main_v15) = O := by rw [← hR]; after_reads_simp; exact hQ15
  have hRc3 : R (Proc.devRef .tc main_c_3) = past := by rw [← hR]; after_reads_simp; exact hQc3
  have hR28 : R (Proc.devRef .tc main_v28) = addf (read O lows) (mulf fracs (subf (read O highs) (read O lows))) := by
    rw [← hR]; after_reads_simp
    rw [hQcst, hQ20, hQ25]
  clear hR hQ11 hQ14 hQ15 hQc3 hQcst hQ20 hQ25
  generalize hS : StableHlo.after _ R = S at hC
  have hS11 : S (Proc.devRef .tc main_v11) = T := by rw [← hS]; after_reads_simp; exact hR11
  have hS14 : S (Proc.devRef .tc main_v14) = H := by rw [← hS]; after_reads_simp; exact hR14
  have hSc3 : S (Proc.devRef .tc main_c_3) = past := by rw [← hS]; after_reads_simp; exact hRc3
  have hS28 : S (Proc.devRef .tc main_v28) = addf (read O lows) (mulf fracs (subf (read O highs) (read O lows))) := by
    rw [← hS]; after_reads_simp; exact hR28
  have hS29 : S (Proc.devRef .tc main_v29) = extractStridedSlice S1 ![49999] O slices_S50000_S1_49999 := by
    rw [← hS]; after_reads_simp; rw [hR15]
  clear hS hR11 hR14 hR15 hRc3 hR28
  unfold edges last
  generalize extractStridedSlice S1 ![49999] O slices_S50000_S1_49999 = y at hS29 ⊢
  generalize addf (read O lows) (mulf fracs (subf (read O highs) (read O lows))) = e at hS28 ⊢
  generalize hU : StableHlo.after _ S = U at hC
  have hU11 : U (Proc.devRef .tc main_v11) = T := by rw [← hU]; after_reads_simp; exact hS11
  have hU14 : U (Proc.devRef .tc main_v14) = H := by rw [← hU]; after_reads_simp; exact hS14
  have hUc3 : U (Proc.devRef .tc main_c_3) = past := by rw [← hU]; after_reads_simp; exact hSc3
  have hU28 : U (Proc.devRef .tc main_v28) = e := by rw [← hU]; after_reads_simp; exact hS28
  have hU30 : U (Proc.devRef .tc main_v30) = shapeCast S_ y shapeCasts_S1_S_ := by
    rw [← hU]; after_reads_simp; rw [hS29]; rfl
  clear hU hS11 hS14 hSc3 hS28 hS29
  generalize shapeCast S_ y shapeCasts_S1_S_ = z at hU30 ⊢
  have hC11 : C (Proc.devRef .tc main_v11) = T := by rw [← hC]; after_reads_simp; exact hU11
  have hC14 : C (Proc.devRef .tc main_v14) = H := by rw [← hC]; after_reads_simp; exact hU14
  have hC31 : C (Proc.devRef .tc main_v31) = select past (broadcastInDim S16 ![] bcast_S_S16 z) e := by
    rw [← hC]
    exact chosen U past z e hUc3 hU28 hU30
  clear hC hU11 hU14 hUc3 hU28 hU30
  generalize select past (broadcastInDim S16 ![] bcast_S_S16 z) e = E at hC31 ⊢
  generalize hD : StableHlo.after _ C = D
  have hD11 : D (Proc.devRef .tc main_v11) = T := by rw [← hD]; after_reads_simp; exact hC11
  have hD14 : D (Proc.devRef .tc main_v14) = H := by rw [← hD]; after_reads_simp; exact hC14
  have hD45 : D (Proc.devRef .tc main_v45) = masks T (los E) (his E) := by
    rw [← hD]; after_reads_simp
    rw [hC11, hC31]
    rfl
  clear hD hC11 hC14 hC31
  unfold result
  generalize masks T (los E) (his E) = M at hD45 ⊢
  generalize hG : StableHlo.after _ D = G
  have hG11 : G (Proc.devRef .tc main_v11) = T := by rw [← hG]; after_reads_simp; exact hD11
  have hG14 : G (Proc.devRef .tc main_v14) = H := by rw [← hG]; after_reads_simp; exact hD14
  have hG45 : G (Proc.devRef .tc main_v45) = M := by rw [← hG]; after_reads_simp; exact hD45
  have hG48 : G (Proc.devRef .tc main_v48) = Host.divf (sums M) (fill 0x47435000#32) := by
    rw [← hG]; after_reads_simp
    rw [hD45]
    rfl
  have hG52 : G (Proc.devRef .tc main_v52) = select (cmpf .ogt (sums M) (fill 0x00000000#32)) (sums M) (fill 0x3F800000#32) := by
    rw [← hG]; after_reads_simp
    rw [hD45]
    simp only [StableHlo.TRef.toBuf, StableHlo.TRef.ofBuf, cast_eq, id_eq]
    unfold sums fill
    with_reducible rfl
  clear hG hD11 hD14 hD45
  unfold shares
  generalize Host.divf (sums M) (fill 0x47435000#32) = p at hG48 ⊢
  generalize select (cmpf .ogt (sums M) (fill 0x00000000#32)) (sums M) (fill 0x3F800000#32) = d at hG52 ⊢
  generalize hK : StableHlo.after _ G = K
  have hK48 : K (Proc.devRef .tc main_v48) = p := by rw [← hK]; after_reads_simp; exact hG48
  have hK57 : K (Proc.devRef .tc main_v57) = Host.divf (sums (mulf (rowsOf H) M)) d := by
    rw [← hK]; after_reads_simp
    rw [hG14, hG45, hG52]
    rfl
  have hK62 : K (Proc.devRef .tc main_v62) = Host.divf (sums (mulf (rowsOf T) M)) d := by
    rw [← hK]; after_reads_simp
    rw [hG11, hG45, hG52]
    rfl
  clear hK hG11 hG14 hG45 hG48 hG52
  generalize Host.divf (sums (mulf (rowsOf H) M)) d = a at hK57 ⊢
  generalize Host.divf (sums (mulf (rowsOf T) M)) d = b at hK62 ⊢
  after_reads_simp
  rw [hK48, hK57, hK62]
  simp only [StableHlo.TRef.toBuf, StableHlo.TRef.ofBuf, cast_eq, id_eq]
  unfold fill
  with_reducible rfl

theorem frame : θ_run defs (onTc (τ := τ) (main (F := Ideal))) ⟨m, fun _ => 0, ρ⟩ fun r => (∀ c : Dev nD,
      r.2.mem ((c : Thread nD τ).loc main_arg0) = m ((c : Thread nD τ).loc main_arg0)
      ∧ r.2.mem ((c : Thread nD τ).loc main_arg1) = m ((c : Thread nD τ).loc main_arg1)) ∧ r.2.sem = fun _ => 0 :=
  (θ_run defs _ _).mono (fun r h => ⟨fun c => (h c).2, Idealize.ShloMosaic.sem_eq_zero_of_no_sems (by decide) r.2⟩) (run m ρ)

end Cert.Calib.Ref3
end
-- ==== Proof.lean ====
/-
  The certificate's claims, assembled.
-/
module

public import proofs.«01_k».proof.Defs
public import proofs.«01_k».proof.Proof.Pre
public import proofs.«01_k».proof.Proof.RefRun
public import proofs.«01_k».proof.Proof.KernelValue
public import proofs.«01_k».proof.Proof.EceKernel
public import proofs.«01_k».proof.Proof.EceRefRun
public import proofs.«01_k».proof.Proof.Gen.Kernel
public import proofs.«01_k».proof.Proof.Gen.Kernel.Frame
public import proofs.«01_k».proof.Proof.Gen.ConfAcc.Frame
public import proofs.«01_k».proof.Proof.Gen.ConfAccIdeal.Frame
public import proofs.«01_k».proof.Proof.Gen.ConfAccIdeal.Value
public import proofs.«01_k».proof.Proof.Gen.ConfAccRefIdeal
public import proofs.«01_k».proof.Proof.Gen.Ece.Frame
public import proofs.«01_k».proof.Proof.Gen.EceIdeal.Frame
public import proofs.«01_k».proof.Proof.Gen.EceRefIdeal

@[expose] public section

noncomputable section

namespace Cert.Proof

open Idealize.ShloMosaic Idealize.SL.Sem

theorem algebraic1 : Cert.algebraic_ConfAccIdeal_ConfAccRefIdeal_pre_rows_finite := by
  intro m g m' g' hpre hagree
  have hX : ∀ c : Dev Cert.ConfAccRefIdeal.nD, Cert.Calib.Ref1.RowsFinite (m' ((c.tc : Thread Cert.ConfAccRefIdeal.nD Cert.ConfAccRefIdeal.τ).loc Cert.ConfAccRefIdeal.main_arg0)) := fun c r => by
    rw [(hagree c).1]
    exact Cert.Pre_rows_finite.Proof.finite _ _ (hpre c) r
  refine ⟨fun c => Cert.Calib.confs (m ((c.tc : Thread Cert.ConfAccIdeal.nD Cert.ConfAccIdeal.τ).loc Cert.ConfAccIdeal.main_arg0)),
    fun c => Cert.Calib.accs (m ((c.tc : Thread Cert.ConfAccIdeal.nD Cert.ConfAccIdeal.τ).loc Cert.ConfAccIdeal.main_arg0))
      (m ((c.tc : Thread Cert.ConfAccIdeal.nD Cert.ConfAccIdeal.τ).loc Cert.ConfAccIdeal.main_arg1)), ?_, ?_⟩
  · refine (θ_run Cert.ConfAccIdeal.defs _ _).mono (fun r h c => ?_) (Cert.ConfAccIdeal.Value.run_blocks m g)
    obtain ⟨h1, h2, h3, h4⟩ := h c
    exact ⟨h1.trans (Cert.Calib.Kernel1.final2 m c), h2.trans (Cert.Calib.Kernel1.final3 m c), h3, h4⟩
  · refine (θ_run Cert.ConfAccRefIdeal.defs _ _).mono (fun r h c => ?_) (Cert.Calib.Ref1.run m' g' hX)
    obtain ⟨h1, h2, h3, h4⟩ := h c
    exact ⟨h1.trans (congrArg _ (hagree c).1), h2.trans (congrArg₂ _ (hagree c).1 (hagree c).2), h3, h4⟩

/-- The named constant is `1/50000`. -/
theorem named3 : Cert.preserves_Ece_EceIdeal :=
  IdealRules.named_const.statement Cert.EceIdeal.κ "inv_n" .f32 0x37A7C5AC#32 ((1 / 50000 : ℝ) : EReal) rfl

/-- The kernel and the reference end with one calibration error. -/
theorem value3 (X : FVec Ideal Cert.EceRefIdeal.S50000x1000 .f32) (L : IVec Cert.EceRefIdeal.S50000 32) (h : Cert.Calib.Ref1.RowsFinite X) :
    Cert.Calib.Ref3.result (Cert.Calib.Ref3.top (Cert.Calib.Ref1.soft X))
        (Cert.Calib.Ref3.hits (fun j => (Cert.Calib.Ref3.pairs (Cert.Calib.Ref1.soft X) j).2) L)
        (Cert.Calib.Ref3.edges (Cert.Calib.Ref3.ordered (Cert.Calib.Ref3.top (Cert.Calib.Ref1.soft X))))
      = fun _ => Cert.Calib.calibration (fun r : Fin 50000 => Cert.Calib.rowConf fun k => X (ix2 r k))
          (fun r : Fin 50000 => Cert.Calib.rowHit (fun k => X (ix2 r k)) (L (ix1 r)))
          (fun r => (Cert.Calib.Kernel3.ordered (Cert.Calib.Kernel3.flat X) (ix1 r) : EReal)) := by
  have e : Cert.Calib.Ref3.top (Cert.Calib.Ref1.soft X) = Cert.Calib.Kernel3.flat X := funext fun i => by
    obtain ⟨r, rfl⟩ : ∃ r, i = ix1 r := ⟨i 0, by funext a; match a with | ⟨0, _⟩ => rfl⟩
    exact (Cert.Calib.Ref3.conf_at X h r).trans (Cert.Calib.Kernel3.flat_at X r).symm
  rw [Cert.Calib.Ref3.pairs_eq, Cert.Calib.Ref3.value X L h, e, Cert.Calib.Kernel3.ordered_eq]

theorem algebraic3 : Cert.algebraic_EceIdeal_EceRefIdeal_pre_rows_finite := by
  intro m g m' g' hpre hagree
  have hX : ∀ c : Dev Cert.EceIdeal.nD, Cert.Calib.Ref1.RowsFinite (m ((c.tc : Thread Cert.EceIdeal.nD Cert.EceIdeal.τ).loc Cert.EceIdeal.main_arg0)) := fun c r =>
    Cert.Pre_rows_finite.Proof.finite _ _ (hpre c) r
  refine ⟨fun c _ => Cert.Calib.calibration
    (fun r : Fin 50000 => Cert.Calib.rowConf fun k => m ((c.tc : Thread Cert.EceIdeal.nD Cert.EceIdeal.τ).loc Cert.EceIdeal.main_arg0) (ix2 r k))
    (fun r : Fin 50000 => Cert.Calib.rowHit (fun k => m ((c.tc : Thread Cert.EceIdeal.nD Cert.EceIdeal.τ).loc Cert.EceIdeal.main_arg0) (ix2 r k))
      (m ((c.tc : Thread Cert.EceIdeal.nD Cert.EceIdeal.τ).loc Cert.EceIdeal.main_arg1) (ix1 r)))
    (fun r => (Cert.Calib.Kernel3.ordered (Cert.Calib.Kernel3.flat (m ((c.tc : Thread Cert.EceIdeal.nD Cert.EceIdeal.τ).loc Cert.EceIdeal.main_arg0))) (ix1 r) : EReal)),
    ?_, ?_⟩
  · exact (θ_run Cert.EceIdeal.defs _ _).mono (fun r h c => h.1 c) (Cert.Calib.Kernel3.run m g hX)
  · refine (θ_run Cert.EceRefIdeal.defs _ _).mono (fun r h c => ?_) (Cert.Calib.Ref3.run m' g')
    obtain ⟨h1, h2, h3⟩ := h c
    refine ⟨h1.trans ?_, h2, h3⟩
    rw [(hagree c).1, (hagree c).2]
    exact value3 _ _ (hX c)

theorem claim : Cert.Claim :=
  ⟨Cert.Kernel.Gen.facts, Cert.ConfAcc.Gen.facts, Cert.ConfAccIdeal.Gen.facts, Cert.ConfAccRefIdeal.Gen.facts,
    Cert.Ece.Gen.facts, Cert.EceIdeal.Gen.facts, Cert.EceRefIdeal.Gen.facts, Cert.Pre_rows_finite.Proof.facts,
    fun m ρ _ => Cert.Kernel.Gen.frame m ρ, fun m ρ _ => Cert.ConfAcc.Gen.frame m ρ, fun m ρ _ => Cert.ConfAccIdeal.Gen.frame m ρ,
    fun m ρ _ => Cert.ConfAccIdeal.Gen.frame m ρ, fun m ρ _ => Cert.Calib.Ref1.frame m ρ, fun m ρ _ => Cert.Calib.Ref1.frame m ρ,
    fun m ρ _ => Cert.Ece.Gen.frame m ρ, fun m ρ _ => Cert.EceIdeal.Gen.frame m ρ, fun m ρ _ => Cert.EceIdeal.Gen.frame m ρ,
    fun m ρ _ => Cert.Calib.Ref3.frame m ρ, fun m ρ _ => Cert.Calib.Ref3.frame m ρ, trivial, algebraic1, named3, algebraic3⟩

end Cert.Proof

end
